-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)) (v2 : (c : Dev Cert.Kernel6Ideal.nD) → Buf (Elt Ideal) ((c.tc : Thread Cert.Kernel6Ideal.nD Cert.Kernel6Ideal.τ).loc Cert.Kernel6Ideal.main_v17_2)) (v3 : (c : Dev Cert.Kernel6Ideal.nD) → Buf (Elt Ideal) ((c.tc : Thread Cert.Kernel6Ideal.nD Cert.Kernel6Ideal.τ).loc Cert.Kernel6Ideal.main_v17_3)) (v4 : (c : Dev Cert.Kernel6Ideal.nD) → Buf (Elt Ideal) ((c.tc : Thread Cert.Kernel6Ideal.nD Cert.Kernel6Ideal.τ).loc Cert.Kernel6Ideal.main_v17_4)) (v5 : (c : Dev Cert.Kernel6Ideal.nD) → Buf (Elt Ideal) ((c.tc : Thread Cert.Kernel6Ideal.nD Cert.Kernel6Ideal.τ).loc Cert.Kernel6Ideal.main_v17_5)) (v6 : (c : Dev Cert.Kernel6Ideal.nD) → Buf (Elt Ideal) ((c.tc : Thread Cert.Kernel6Ideal.nD Cert.Kernel6Ideal.τ).loc Cert.Kernel6Ideal.main_v17_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_v17_2) = v2 c
          ∧ r.2.mem ((c.tc : Thread Cert.Kernel6Ideal.nD Cert.Kernel6Ideal.τ).loc Cert.Kernel6Ideal.main_v17_3) = v3 c
          ∧ r.2.mem ((c.tc : Thread Cert.Kernel6Ideal.nD Cert.Kernel6Ideal.τ).loc Cert.Kernel6Ideal.main_v17_4) = v4 c
          ∧ r.2.mem ((c.tc : Thread Cert.Kernel6Ideal.nD Cert.Kernel6Ideal.τ).loc Cert.Kernel6Ideal.main_v17_5) = v5 c
          ∧ r.2.mem ((c.tc : Thread Cert.Kernel6Ideal.nD Cert.Kernel6Ideal.τ).loc Cert.Kernel6Ideal.main_v17_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v67) = v1 c
          ∧ r.2.mem ((c.tc : Thread Cert.Reference6Ideal.nD Cert.Reference6Ideal.τ).loc Cert.Reference6Ideal.main_v68) = v2 c
          ∧ r.2.mem ((c.tc : Thread Cert.Reference6Ideal.nD Cert.Reference6Ideal.τ).loc Cert.Reference6Ideal.main_v69) = v3 c
          ∧ r.2.mem ((c.tc : Thread Cert.Reference6Ideal.nD Cert.Reference6Ideal.τ).loc Cert.Reference6Ideal.main_v70) = v4 c
          ∧ r.2.mem ((c.tc : Thread Cert.Reference6Ideal.nD Cert.Reference6Ideal.τ).loc Cert.Reference6Ideal.main_v71) = v5 c
          ∧ r.2.mem ((c.tc : Thread Cert.Reference6Ideal.nD Cert.Reference6Ideal.τ).loc Cert.Reference6Ideal.main_v72) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite6 : Cert.Pre_finite6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite6.lean ====
abbrev S32768x3328 : Shape := ⟨2, ![32768, 3328]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S_ : Shape := ⟨0, ![]⟩

class Facts : Prop where
  bcast_S_S32768x3328 : S_.BroadcastsInDim S32768x3328 (![] : Fin 0 → Fin S32768x3328.rank)
  reducesTo_S32768x3328_S_d0_1 : S32768x3328.ReducesTo [0, 1] S_
  h_S_ : 0 < S_.numel
  bcast_S_S3328 : S_.BroadcastsInDim S3328 (![] : Fin 0 → Fin S3328.rank)
  reducesTo_S3328_S_d0 : S3328.ReducesTo [0] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_arg5 : FVec F S64x1024 .f32) (main_arg6 : FVec F S128x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64x1024 .f32 := Host.absf main_arg5
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S128x1024 .f32 := Host.absf main_arg6
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  main_v28

def fn {F : FTy → Type} [FloatOps F] (main_arg0 : FVec F S32768x3328 .f32) (main_arg1 : FVec F S3328 .f32) (main_arg2 : FVec F S1024 .f32) (main_arg3 : FVec F S64x1024 .f32) (main_arg4 : FVec F S1024 .f32) (main_arg5 : FVec F S64x1024 .f32) (main_arg6 : FVec F S128x1024 .f32) (main_arg7 : FVec F S1024 .f32) (main_arg8 : FVec F S1024 .f32) : IVec S_ 1 :=
  let main_v0 : FVec F S32768x3328 .f32 := Host.absf main_arg0
  let main_cst : FVec F S_ .f32 := constant S_ .f32 0x7F800000#32
  let main_v1 : FVec F S32768x3328 .f32 := broadcastInDim S32768x3328 ![] bcast_S_S32768x3328 main_cst
  let main_v2 : IVec S32768x3328 1 := cmpf .olt main_v0 main_v1
  let main_c : IVec S_ 1 := constantI S_ 1 1#1
  let main_v3 : IVec S_ 1 := (fun x v => Host.reduce IntOp.andi x v reducesTo_S32768x3328_S_d0_1 h_S_) main_v2 main_c
  let main_v4 : FVec F S3328 .f32 := Host.absf main_arg1
  let main_cst_0 : FVec F S_ .f32 := constant S_ .f32 0x7F800000#32
  let main_v5 : FVec F S3328 .f32 := broadcastInDim S3328 ![] bcast_S_S3328 main_cst_0
  let main_v6 : IVec S3328 1 := cmpf .olt main_v4 main_v5
  let main_c_1 : IVec S_ 1 := constantI S_ 1 1#1
  let main_v7 : IVec S_ 1 := (fun x v => Host.reduce IntOp.andi x v reducesTo_S3328_S_d0 h_S_) main_v6 main_c_1
  let main_v8 : IVec S_ 1 := andi main_v3 main_v7
  let main_v9 : FVec F S1024 .f32 := Host.absf main_arg7
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg5 main_arg6 main_v13 main_v16
-- ==== Kernel.lean ====
abbrev S32768x3200 : Shape := ⟨2, ![32768, 3200]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S128x1024 : Shape := ⟨2, ![128, 1024]⟩
abbrev S128x128 : Shape := ⟨2, ![128, 128]⟩
abbrev S_ : Shape := ⟨0, ![]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S1x2048 : Shape := ⟨2, ![1, 2048]⟩
abbrev S32768x1024 : Shape := ⟨2, ![32768, 1024]⟩
abbrev S128x2048 : Shape := ⟨2, ![128, 2048]⟩
abbrev S136x2048 : Shape := ⟨2, ![136, 2048]⟩
abbrev S8x2048 : Shape := ⟨2, ![8, 2048]⟩
abbrev S128x256 : Shape := ⟨2, ![128, 256]⟩
abbrev S1x256 : Shape := ⟨2, ![1, 256]⟩
abbrev S128x1 : Shape := ⟨2, ![128, 1]⟩
abbrev S128x64 : Shape := ⟨2, ![128, 64]⟩

abbrev nBuf : Space → Nat
  | .hbm => 25
  | .vmem => 18
  | .smem => 0
  | _ => 0

abbrev bufTy : (tb : Table) → Fin (tcTables nBuf tb) → BufTy
  | .hbm, ⟨0, _⟩ => ⟨S32768x3200, .f32⟩
  | .hbm, ⟨1, _⟩ => ⟨S4x2048, .f32⟩
  | .hbm, ⟨2, _⟩ => ⟨S2048, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S128x1024, .bf16⟩
  | .hbm, ⟨8, _⟩ => ⟨S128x128, .bf16⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S16, .f32⟩
  | .hbm, ⟨14, _⟩ => ⟨S16, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x2048, .f32⟩
  | .hbm, ⟨23, _⟩ => ⟨S1x1024, .f32⟩
  | .hbm, ⟨24, _⟩ => ⟨S32768x1024, .bf16⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S4x2048, .f32⟩
  | .local _ .vmem, ⟨7, _⟩ => ⟨S1x2048, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S128x128, .bf16⟩
  | .local _ .vmem, ⟨14, _⟩ => ⟨S128x1024, .bf16⟩
  | .local _ .vmem, ⟨15, _⟩ => ⟨S128x1024, .bf16⟩
  | .local _ .vmem, ⟨16, _⟩ => ⟨S136x2048, .f32⟩
  | .local _ .vmem, ⟨17, _⟩ => ⟨S128x1024, .f32⟩
  | _, _ => ⟨S32768x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c24_i32 : BitVec 32 := 24#32
  let c0_i32 : BitVec 32 := 0#32
  ![v1.toNat, c24_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x3200 : Shape := ⟨2, ![32768, 3200]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S2x16384x3200 : Shape := ⟨3, ![2, 16384, 3200]⟩
abbrev S2x16384x2048 : Shape := ⟨3, ![2, 16384, 2048]⟩
abbrev S2x16384x1024 : Shape := ⟨3, ![2, 16384, 1024]⟩
abbrev S2x16384x16 : Shape := ⟨3, ![2, 16384, 16]⟩
abbrev S_ : Shape := ⟨0, ![]⟩
abbrev S2x16387x2048 : Shape := ⟨3, ![2, 16387, 2048]⟩
abbrev S1x2048 : Shape := ⟨2, ![1, 2048]⟩
abbrev S1x1x2048 : Shape := ⟨3, ![1, 1, 2048]⟩
abbrev S2x16384x512 : Shape := ⟨3, ![2, 16384, 512]⟩
abbrev S2x128x128x4x128 : Shape := ⟨5, ![2, 128, 128, 4, 128]⟩
abbrev S1x1x16 : Shape := ⟨3, ![1, 1, 16]⟩
abbrev S2x128x128x4x4x64 : Shape := ⟨6, ![2, 128, 128, 4, 4, 64]⟩
abbrev S2x128x128x4x4 : Shape := ⟨5, ![2, 128, 128, 4, 4]⟩
abbrev S2x128x128x4x4x1 : Shape := ⟨6, ![2, 128, 128, 4, 4, 1]⟩
abbrev S2x128x4x4x128 : Shape := ⟨5, ![2, 128, 4, 4, 128]⟩
abbrev S128x128 : Shape := ⟨2, ![128, 128]⟩
abbrev S2x128x4x4x128x1 : Shape := ⟨6, ![2, 128, 4, 4, 128, 1]⟩
abbrev S2x128x4x4x1x128 : Shape := ⟨6, ![2, 128, 4, 4, 1, 128]⟩
abbrev S2x128x4x4x128x128 : Shape := ⟨6, ![2, 128, 4, 4, 128, 128]⟩
abbrev S2x128x4x128x128 : Shape := ⟨5, ![2, 128, 4, 128, 128]⟩
abbrev S2x128x4x1x128x128 : Shape := ⟨6, ![2, 128, 4, 1, 128, 128]⟩
abbrev S2x128x4x4x64x128 : Shape := ⟨6, ![2, 128, 4, 4, 64, 128]⟩
abbrev S2x128x4x4x1 : Shape := ⟨5, ![2, 128, 4, 4, 1]⟩
abbrev S2x128x4x4 : Shape := ⟨4, ![2, 128, 4, 4]⟩
abbrev S2x4x4x64x128 : Shape := ⟨5, ![2, 4, 4, 64, 128]⟩
abbrev S128x2x4x4x64x128 : Shape := ⟨6, ![128, 2, 4, 4, 64, 128]⟩
abbrev S128x2x4x4 : Shape := ⟨4, ![128, 2, 4, 4]⟩
abbrev S1x2x4x4x64x128 : Shape := ⟨6, ![1, 2, 4, 4, 64, 128]⟩
abbrev S1x2x4x4 : Shape := ⟨4, ![1, 2, 4, 4]⟩
abbrev S2x4x4 : Shape := ⟨3, ![2, 4, 4]⟩
abbrev S2x4x4x1x1 : Shape := ⟨5, ![2, 4, 4, 1, 1]⟩
abbrev S16x64 : Shape := ⟨2, ![16, 64]⟩
abbrev S1x1x1024 : Shape := ⟨3, ![1, 1, 1024]⟩
abbrev S2x16384x4x256 : Shape := ⟨4, ![2, 16384, 4, 256]⟩
abbrev S2x16384x4 : Shape := ⟨3, ![2, 16384, 4]⟩
abbrev S2x16384x4x1 : Shape := ⟨4, ![2, 16384, 4, 1]⟩
abbrev S32768x1024 : Shape := ⟨2, ![32768, 1024]⟩

abbrev nBuf : Space → Nat
  | .hbm => 218
  | .vmem => 0
  | .smem => 0
  | _ => 0

abbrev hbmTy0_0 (i : Nat) : BufTy := match i % 128 with
  | 0 => ⟨S32768x3200, .f32⟩
  | 1 => ⟨S4x2048, .f32⟩
  | 2 => ⟨S2048, .f32⟩
  | 3 => ⟨S16, .f32⟩
  | 4 => ⟨S16, .f32⟩
  | 5 => ⟨S16, .f32⟩
  | 6 => ⟨S1024, .f32⟩
  | 7 => ⟨S2x16384x3200, .f32⟩
  | 8 => ⟨S2x16384x2048, .f32⟩
  | 9 => ⟨S2x16384x1024, .f32⟩
  | 10 => ⟨S2x16384x16, .f32⟩
  | 11 => ⟨S_, .i32⟩
  | 12 => ⟨S_, .f32⟩
  | 13 => ⟨S2x16387x2048, .f32⟩
  | 14 => ⟨S2x16384x2048, .f32⟩
  | 15 => ⟨S1x2048, .f32⟩
  | 16 => ⟨S2048, .f32⟩
  | 17 => ⟨S1x1x2048, .f32⟩
  | 18 => ⟨S2x16384x2048, .f32⟩
  | 19 => ⟨S2x16384x2048, .f32⟩
  | 20 => ⟨S_, .f32⟩
  | 21 => ⟨S2x16384x2048, .f32⟩
  | 22 => ⟨S2x16384x2048, .f32⟩
  | 23 => ⟨S2x16384x2048, .f32⟩
  | 24 => ⟨S1x2048, .f32⟩
  | 25 => ⟨S2048, .f32⟩
  | 26 => ⟨S1x1x2048, .f32⟩
  | 27 => ⟨S2x16384x2048, .f32⟩
  | 28 => ⟨S2x16384x2048, .f32⟩
  | 29 => ⟨S2x16384x2048, .f32⟩
  | 30 => ⟨S2x16384x2048, .f32⟩
  | 31 => ⟨S1x2048, .f32⟩
  | 32 => ⟨S2048, .f32⟩
  | 33 => ⟨S1x1x2048, .f32⟩
  | 34 => ⟨S2x16384x2048, .f32⟩
  | 35 => ⟨S2x16384x2048, .f32⟩
  | 36 => ⟨S2x16384x2048, .f32⟩
  | 37 => ⟨S2x16384x2048, .f32⟩
  | 38 => ⟨S1x2048, .f32⟩
  | 39 => ⟨S2048, .f32⟩
  | 40 => ⟨S1x1x2048, .f32⟩
  | 41 => ⟨S2x16384x2048, .f32⟩
  | 42 => ⟨S2x16384x2048, .f32⟩
  | 43 => ⟨S2x16384x2048, .f32⟩
  | 44 => ⟨S1x1x2048, .f32⟩
  | 45 => ⟨S2x16384x2048, .f32⟩
  | 46 => ⟨S2x16384x2048, .f32⟩
  | 47 => ⟨S2x16384x2048, .f32⟩
  | 48 => ⟨S2x16384x2048, .f32⟩
  | 49 => ⟨S_, .f32⟩
  | 50 => ⟨S2x16384x2048, .f32⟩
  | 51 => ⟨S2x16384x2048, .f32⟩
  | 52 => ⟨S_, .f32⟩
  | 53 => ⟨S2x16384x2048, .f32⟩
  | 54 => ⟨S2x16384x2048, .f32⟩
  | 55 => ⟨S2x16384x2048, .f32⟩
  | 56 => ⟨S2x16384x1024, .f32⟩
  | 57 => ⟨S2x16384x512, .f32⟩
  | 58 => ⟨S2x128x128x4x128, .f32⟩
  | 59 => ⟨S2x16384x512, .f32⟩
  | 60 => ⟨S2x128x128x4x128, .f32⟩
  | 61 => ⟨S1x1x16, .f32⟩
  | 62 => ⟨S2x16384x16, .f32⟩
  | 63 => ⟨S2x16384x16, .f32⟩
  | 64 => ⟨S_, .f32⟩
  | 65 => ⟨S2x16384x16, .f32⟩
  | 66 => ⟨S2x16384x16, .f32⟩
  | 67 => ⟨S2x16384x16, .f32⟩
  | 68 => ⟨S2x16384x16, .f32⟩
  | 69 => ⟨S2x16384x16, .i1⟩
  | 70 => ⟨S2x16384x16, .f32⟩
  | 71 => ⟨S2x16384x16, .f32⟩
  | 72 => ⟨S2x16384x16, .f32⟩
  | 73 => ⟨S2x16384x16, .f32⟩
  | 74 => ⟨S2x16384x16, .f32⟩
  | 75 => ⟨S2x16384x16, .f32⟩
  | 76 => ⟨S2x16384x16, .f32⟩
  | 77 => ⟨S2x16384x16, .f32⟩
  | 78 => ⟨S16, .f32⟩
  | 79 => ⟨S16, .f32⟩
  | 80 => ⟨S2x128x128x4x4x64, .f32⟩
  | 81 => ⟨S2x128x128x4x4, .f32⟩
  | 82 => ⟨S2x128x128x4x4x1, .f32⟩
  | 83 => ⟨S2x128x128x4x4x64, .f32⟩
  | 84 => ⟨S2x128x128x4x4x64, .f32⟩
  | 85 => ⟨S1x1x16, .f32⟩
  | 86 => ⟨S2x16384x16, .f32⟩
  | 87 => ⟨S2x16384x16, .f32⟩
  | 88 => ⟨S2x128x128x4x4, .f32⟩
  | 89 => ⟨S2x128x4x4x128, .f32⟩
  | 90 => ⟨S_, .f32⟩
  | 91 => ⟨S_, .f32⟩
  | 92 => ⟨S2x128x4x4x128, .f32⟩
  | 93 => ⟨S_, .i1⟩
  | 94 => ⟨S128x128, .i1⟩
  | 95 => ⟨S128x128, .i32⟩
  | 96 => ⟨S_, .i32⟩
  | 97 => ⟨S128x128, .i32⟩
  | 98 => ⟨S128x128, .i32⟩
  | 99 => ⟨S128x128, .i32⟩
  | 100 => ⟨S128x128, .i1⟩
  | 101 => ⟨S_, .i1⟩
  | 102 => ⟨S128x128, .i1⟩
  | 103 => ⟨S128x128, .i1⟩
  | 104 => ⟨S2x128x4x4x128x1, .f32⟩
  | 105 => ⟨S2x128x4x4x1x128, .f32⟩
  | 106 => ⟨S2x128x4x4x128x128, .f32⟩
  | 107 => ⟨S2x128x4x4x128x128, .f32⟩
  | 108 => ⟨S2x128x4x4x128x128, .f32⟩
  | 109 => ⟨S_, .f32⟩
  | 110 => ⟨S_, .f32⟩
  | 111 => ⟨S2x128x4x4x128x128, .i1⟩
  | 112 => ⟨S2x128x4x4x128x128, .f32⟩
  | 113 => ⟨S2x128x4x4x128x128, .f32⟩
  | 114 => ⟨S2x128x4x4x128x128, .f32⟩
  | 115 => ⟨S2x128x4x128x128, .f32⟩
  | 116 => ⟨S2x128x4x1x128x128, .f32⟩
  | 117 => ⟨S2x128x4x4x128x128, .f32⟩
  | 118 => ⟨S2x128x4x4x128x128, .f32⟩
  | 119 => ⟨S2x128x4x4x64x128, .f32⟩
  | 120 => ⟨S2x128x128x4x4x64, .f32⟩
  | 121 => ⟨S2x128x4x4x1, .f32⟩
  | 122 => ⟨S2x128x4x4x128, .f32⟩
  | 123 => ⟨S2x128x4x4x128, .f32⟩
  | 124 => ⟨S2x128x4x4x128, .f32⟩
  | 125 => ⟨S2x128x128x4x4, .f32⟩
  | 126 => ⟨S2x128x128x4x4x1, .f32⟩
  | 127 => ⟨S2x128x128x4x4x64, .f32⟩
  | _ => ⟨S32768x3200, .f32⟩

abbrev hbmTy0_1 (i : Nat) : BufTy := match i % 128 with
  | 0 => ⟨S2x128x128x4x4x64, .f32⟩
  | 1 => ⟨S2x128x4x4x64x128, .f32⟩
  | 2 => ⟨S2x128x4x4x1, .f32⟩
  | 3 => ⟨S2x128x4x4, .f32⟩
  | 4 => ⟨S2x128x4x4, .f32⟩
  | 5 => ⟨S_, .f32⟩
  | 6 => ⟨S2x4x4x64x128, .f32⟩
  | 7 => ⟨S128x2x4x4x64x128, .f32⟩
  | 8 => ⟨S128x2x4x4, .f32⟩
  | 9 => ⟨S_, .f32⟩
  | 10 => ⟨S128x2x4x4x64x128, .f32⟩
  | 11 => ⟨S_, .i32⟩
  | 12 => ⟨S128x2x4x4x64x128, .f32⟩
  | 13 => ⟨S128x2x4x4, .f32⟩
  | 14 => ⟨S_, .i32⟩
  | 15 => ⟨S2x4x4x64x128, .f32⟩
  | 16 => ⟨S128x2x4x4x64x128, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S1x2x4x4x64x128, .f32⟩
  | 25 => ⟨S2x4x4x64x128, .f32⟩
  | 26 => ⟨S_, .i32⟩
  | 27 => ⟨S_, .i32⟩
  | 28 => ⟨S_, .i32⟩
  | 29 => ⟨S1x2x4x4, .f32⟩
  | 30 => ⟨S2x4x4, .f32⟩
  | 31 => ⟨S2x4x4x1x1, .f32⟩
  | 32 => ⟨S2x4x4x64x128, .f32⟩
  | 33 => ⟨S2x4x4x64x128, .f32⟩
  | 34 => ⟨S2x4x4x64x128, .f32⟩
  | 35 => ⟨S1x2x4x4x64x128, .f32⟩
  | 36 => ⟨S_, .i32⟩
  | 37 => ⟨S_, .i32⟩
  | 38 => ⟨S_, .i32⟩
  | 39 => ⟨S_, .i32⟩
  | 40 => ⟨S_, .i32⟩
  | 41 => ⟨S128x2x4x4x64x128, .f32⟩
  | 42 => ⟨S_, .i32⟩
  | 43 => ⟨S_, .i32⟩
  | 44 => ⟨S2x128x4x4x64x128, .f32⟩
  | 45 => ⟨S2x128x4x4x128, .f32⟩
  | 46 => ⟨S2x128x128x4x4, .f32⟩
  | 47 => ⟨S2x128x128x4x4x1, .f32⟩
  | 48 => ⟨S2x128x4x4x64x128, .f32⟩
  | 49 => ⟨S2x128x128x4x4x64, .f32⟩
  | 50 => ⟨S2x128x128x4x4x64, .f32⟩
  | 51 => ⟨S2x128x128x4x4x64, .f32⟩
  | 52 => ⟨S2x128x128x4x4x64, .f32⟩
  | 53 => ⟨S2x16384x1024, .f32⟩
  | 54 => ⟨S16x64, .f32⟩
  | 55 => ⟨S1024, .f32⟩
  | 56 => ⟨S1x1x1024, .f32⟩
  | 57 => ⟨S2x16384x1024, .f32⟩
  | 58 => ⟨S2x16384x1024, .f32⟩
  | 59 => ⟨S2x16384x1024, .f32⟩
  | 60 => ⟨S2x16384x1024, .f32⟩
  | 61 => ⟨S2x16384x1024, .f32⟩
  | 62 => ⟨S_, .f32⟩
  | 63 => ⟨S2x16384x1024, .f32⟩
  | 64 => ⟨S2x16384x1024, .f32⟩
  | 65 => ⟨S_, .f32⟩
  | 66 => ⟨S2x16384x1024, .f32⟩
  | 67 => ⟨S2x16384x1024, .f32⟩
  | 68 => ⟨S2x16384x1024, .f32⟩
  | 69 => ⟨S2x16384x1024, .f32⟩
  | 70 => ⟨S2x16384x4x256, .f32⟩
  | 71 => ⟨S2x16384x4x256, .f32⟩
  | 72 => ⟨S_, .f32⟩
  | 73 => ⟨S2x16384x4, .f32⟩
  | 74 => ⟨S2x16384x4x1, .f32⟩
  | 75 => ⟨S_, .f32⟩
  | 76 => ⟨S2x16384x4x1, .f32⟩
  | 77 => ⟨S2x16384x4x1, .f32⟩
  | 78 => ⟨S_, .f32⟩
  | 79 => ⟨S2x16384x4x1, .f32⟩
  | 80 => ⟨S2x16384x4x1, .f32⟩
  | 81 => ⟨S2x16384x4x1, .f32⟩
  | 82 => ⟨S2x16384x4x256, .f32⟩
  | 83 => ⟨S2x16384x4x256, .f32⟩
  | 84 => ⟨S2x16384x1024, .f32⟩
  | 85 => ⟨S1x1x1024, .f32⟩
  | 86 => ⟨S2x16384x1024, .f32⟩
  | 87 => ⟨S2x16384x1024, .f32⟩
  | 88 => ⟨S32768x1024, .f32⟩
  | 89 => ⟨S32768x1024, .bf16⟩
  | _ => ⟨S32768x3200, .f32⟩

abbrev hbmTy (i : Nat) : BufTy := match i / 128 with
  | 0 => hbmTy0_0 i
  | 1 => hbmTy0_1 i
  | _ => ⟨S32768x3200, .f32⟩

abbrev bufTy : (tb : Table) → Fin (tcTables nBuf tb) → BufTy
  | .hbm, ⟨i, _⟩ => hbmTy i
  | _, _ => ⟨S32768x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call3_call0_cst : Ref sig .tc := ⟨.hbm, 90, rfl⟩
abbrev main_call3_call0_v0 : Ref sig .tc := ⟨.hbm, 91, rfl⟩
abbrev main_v59 : Ref sig .tc := ⟨.hbm, 92, rfl⟩
abbrev main_c_0 : Ref sig .tc := ⟨.hbm, 93, rfl⟩
abbrev main_v60 : Ref sig .tc := ⟨.hbm, 94, rfl⟩
abbrev main_call4_v0 : Ref sig .tc := ⟨.hbm, 95, rfl⟩
abbrev main_call4_c : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_0 : Ref sig .tc := ⟨.hbm, 101, rfl⟩
abbrev main_call4_v5 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_1 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_2 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_3 : Ref sig .tc := ⟨.hbm, 137, rfl⟩
abbrev main_v90 : Ref sig .tc := ⟨.hbm, 138, rfl⟩
abbrev main_c_4 : Ref sig .tc := ⟨.hbm, 139, rfl⟩
abbrev main_v91_0 : Ref sig .tc := ⟨.hbm, 140, rfl⟩
abbrev main_v91_1 : Ref sig .tc := ⟨.hbm, 141, rfl⟩
abbrev main_v91_2 : Ref sig .tc := ⟨.hbm, 142, rfl⟩
abbrev main_v91_3 : Ref sig .tc := ⟨.hbm, 143, rfl⟩
abbrev main_v91_4 : Ref sig .tc := ⟨.hbm, 144, rfl⟩
abbrev main_while0c_c_12 : Ref sig .tc := ⟨.hbm, 145, rfl⟩
abbrev main_while0c_v127 : Ref sig .tc := ⟨.hbm, 146, rfl⟩
abbrev main_while0b_call6_c : Ref sig .tc := ⟨.hbm, 147, rfl⟩
abbrev main_while0b_call6_c_0 : Ref sig .tc := ⟨.hbm, 148, rfl⟩
abbrev main_while0b_call6_c_1 : Ref sig .tc := ⟨.hbm, 149, rfl⟩
abbrev main_while0b_call6_c_2 : Ref sig .tc := ⟨.hbm, 150, rfl⟩
abbrev main_while0b_call6_c_3 : Ref sig .tc := ⟨.hbm, 151, rfl⟩
abbrev main_while0b_call6_v0 : Ref sig .tc := ⟨.hbm, 152, rfl⟩
abbrev main_while0b_v127 : Ref sig .tc := ⟨.hbm, 153, rfl⟩
abbrev main_while0b_call7_c : Ref sig .tc := ⟨.hbm, 154, rfl⟩
abbrev main_while0b_call7_c_0 : Ref sig .tc := ⟨.hbm, 155, rfl⟩
abbrev main_while0b_call7_c_1 : Ref sig .tc := ⟨.hbm, 156, rfl⟩
abbrev main_while0b_call7_v0 : Ref sig .tc := ⟨.hbm, 157, rfl⟩
abbrev main_while0b_v128 : Ref sig .tc := ⟨.hbm, 158, rfl⟩
abbrev main_while0b_v129 : Ref sig .tc := ⟨.hbm, 159, rfl⟩
abbrev main_while0b_v130 : Ref sig .tc := ⟨.hbm, 160, rfl⟩
abbrev main_while0b_v131 : Ref sig .tc := ⟨.hbm, 161, rfl⟩
abbrev main_while0b_v132 : Ref sig .tc := ⟨.hbm, 162, rfl⟩
abbrev main_while0b_call8_v0 : Ref sig .tc := ⟨.hbm, 163, rfl⟩
abbrev main_while0b_call8_c : Ref sig .tc := ⟨.hbm, 164, rfl⟩
abbrev main_while0b_call8_c_0 : Ref sig .tc := ⟨.hbm, 165, rfl⟩
abbrev main_while0b_call8_c_1 : Ref sig .tc := ⟨.hbm, 166, rfl⟩
abbrev main_while0b_call8_c_2 : Ref sig .tc := ⟨.hbm, 167, rfl⟩
abbrev main_while0b_call8_c_3 : Ref sig .tc := ⟨.hbm, 168, rfl⟩
abbrev main_while0b_v133 : Ref sig .tc := ⟨.hbm, 169, rfl⟩
abbrev main_while0b_c_12 : Ref sig .tc := ⟨.hbm, 170, rfl⟩
abbrev main_while0b_v134 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_call9_v0 : Ref sig .tc := ⟨.hbm, 188, rfl⟩
abbrev main_call9_v1 : Ref sig .tc := ⟨.hbm, 189, rfl⟩
abbrev main_call9_cst : Ref sig .tc := ⟨.hbm, 190, rfl⟩
abbrev main_call9_v2 : Ref sig .tc := ⟨.hbm, 191, rfl⟩
abbrev main_call9_v3 : Ref sig .tc := ⟨.hbm, 192, rfl⟩
abbrev main_call9_cst_0 : Ref sig .tc := ⟨.hbm, 193, rfl⟩
abbrev main_call9_v4 : Ref sig .tc := ⟨.hbm, 194, rfl⟩
abbrev main_call9_v5 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_cst_5 : Ref sig .tc := ⟨.hbm, 200, rfl⟩
abbrev main_v112 : Ref sig .tc := ⟨.hbm, 201, rfl⟩
abbrev main_v113 : Ref sig .tc := ⟨.hbm, 202, rfl⟩
abbrev main_cst_6 : Ref sig .tc := ⟨.hbm, 203, rfl⟩
abbrev main_v114 : Ref sig .tc := ⟨.hbm, 204, rfl⟩
abbrev main_v115 : Ref sig .tc := ⟨.hbm, 205, rfl⟩
abbrev main_cst_7 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x1024 : Shape := ⟨2, ![32768, 1024]⟩
abbrev S1024 : Shape := ⟨1, ![1024]⟩
abbrev S1024x3072 : Shape := ⟨2, ![1024, 3072]⟩
abbrev S3072 : Shape := ⟨1, ![3072]⟩
abbrev S1024x1024 : Shape := ⟨2, ![1024, 1024]⟩
abbrev S1x1024 : Shape := ⟨2, ![1, 1024]⟩
abbrev S1x3072 : Shape := ⟨2, ![1, 3072]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S1024, .f32⟩
  | .hbm, ⟨5, _⟩ => ⟨S1024x3072, .f32⟩
  | .hbm, ⟨6, _⟩ => ⟨S3072, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x3072, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S1x3072, .f32⟩
  | .hbm, ⟨18, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1024x3072, .bf16⟩
  | .local _ .vmem, ⟨10, _⟩ => ⟨S1x3072, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S32768x1024 : Shape := ⟨2, ![32768, 1024]⟩
abbrev S1024 : Shape := ⟨1, ![1024]⟩
abbrev S1024x3072 : Shape := ⟨2, ![1024, 3072]⟩
abbrev S3072 : Shape := ⟨1, ![3072]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩
abbrev S1x3072 : Shape := ⟨2, ![1, 3072]⟩
abbrev S32768x3x1024 : Shape := ⟨3, ![32768, 3, 1024]⟩
abbrev S32768x1x1024 : Shape := ⟨3, ![32768, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S1024, .f32⟩
  | .hbm, ⟨5, _⟩ => ⟨S1024x3072, .f32⟩
  | .hbm, ⟨6, _⟩ => ⟨S3072, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x3072, .f32⟩
  | .hbm, ⟨31, _⟩ => ⟨S1x3072, .f32⟩
  | .hbm, ⟨32, _⟩ => ⟨S32768x3072, .f32⟩
  | .hbm, ⟨33, _⟩ => ⟨S32768x3072, .f32⟩
  | .hbm, ⟨34, _⟩ => ⟨S32768x3072, .f32⟩
  | .hbm, ⟨35, _⟩ => ⟨S32768x3072, .f32⟩
  | .hbm, ⟨36, _⟩ => ⟨S_, .f32⟩
  | .hbm, ⟨37, _⟩ => ⟨S32768x3072, .f32⟩
  | .hbm, ⟨38, _⟩ => ⟨S32768x3072, .f32⟩
  | .hbm, ⟨39, _⟩ => ⟨S_, .f32⟩
  | .hbm, ⟨40, _⟩ => ⟨S32768x3072, .f32⟩
  | .hbm, ⟨41, _⟩ => ⟨S32768x3072, .f32⟩
  | .hbm, ⟨42, _⟩ => ⟨S32768x3x1024, .f32⟩
  | .hbm, ⟨43, _⟩ => ⟨S32768x1x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x9488 : Shape := ⟨2, ![1024, 9488]⟩
abbrev S1024x3072 : Shape := ⟨2, ![1024, 3072]⟩
abbrev S1x1024 : Shape := ⟨2, ![1, 1024]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9488, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S32768x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32768x1024 : Shape := ⟨2, ![32768, 1024]⟩
abbrev S1024 : Shape := ⟨1, ![1024]⟩
abbrev S1024x9488 : Shape := ⟨2, ![1024, 9488]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x3072 : Shape := ⟨2, ![1024, 3072]⟩
abbrev S32768x3072 : Shape := ⟨2, ![32768, 3072]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9488, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x3072, .f32⟩
  | .hbm, ⟨20, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x9488 : Shape := ⟨2, ![1024, 9488]⟩
abbrev S1024x3328 : Shape := ⟨2, ![1024, 3328]⟩
abbrev S1x1024 : Shape := ⟨2, ![1, 1024]⟩
abbrev S32768x3328 : Shape := ⟨2, ![32768, 3328]⟩
abbrev S512x1024 : Shape := ⟨2, ![512, 1024]⟩
abbrev S512x3328 : Shape := ⟨2, ![512, 3328]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 7
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9488, .f32⟩
  | .hbm, ⟨3, _⟩ => ⟨S1024x3328, .f32⟩
  | .hbm, ⟨4, _⟩ => ⟨S1024x3328, .bf16⟩
  | .hbm, ⟨5, _⟩ => ⟨S1x1024, .f32⟩
  | .hbm, ⟨6, _⟩ => ⟨S32768x3328, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x3328, .f32⟩
  | .local _ .vmem, ⟨5, _⟩ => ⟨S512x3328, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32768x1024 : Shape := ⟨2, ![32768, 1024]⟩
abbrev S1024 : Shape := ⟨1, ![1024]⟩
abbrev S1024x9488 : Shape := ⟨2, ![1024, 9488]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x3328 : Shape := ⟨2, ![1024, 3328]⟩
abbrev S32768x3328 : Shape := ⟨2, ![32768, 3328]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9488, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x3328, .f32⟩
  | .hbm, ⟨20, _⟩ => ⟨S32768x3328, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x9488 : Shape := ⟨2, ![1024, 9488]⟩
abbrev S1024x3088 : Shape := ⟨2, ![1024, 3088]⟩
abbrev S1024x1024 : Shape := ⟨2, ![1024, 1024]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S1x1024 : Shape := ⟨2, ![1, 1024]⟩
abbrev S32768x3200 : Shape := ⟨2, ![32768, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S512x128 : Shape := ⟨2, ![512, 128]⟩

abbrev nBuf : Space → Nat
  | .hbm => 14
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9488, .f32⟩
  | .hbm, ⟨3, _⟩ => ⟨S1024x3088, .f32⟩
  | .hbm, ⟨4, _⟩ => ⟨S1024x1024, .f32⟩
  | .hbm, ⟨5, _⟩ => ⟨S1024x2048, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x3200, .f32⟩
  | .hbm, ⟨11, _⟩ => ⟨S1024x3200, .bf16⟩
  | .hbm, ⟨12, _⟩ => ⟨S1x1024, .f32⟩
  | .hbm, ⟨13, _⟩ => ⟨S32768x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32768x1024 : Shape := ⟨2, ![32768, 1024]⟩
abbrev S1024 : Shape := ⟨1, ![1024]⟩
abbrev S1024x9488 : Shape := ⟨2, ![1024, 9488]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x3088 : Shape := ⟨2, ![1024, 3088]⟩
abbrev S32768x3088 : Shape := ⟨2, ![32768, 3088]⟩
abbrev S32768x2048 : Shape := ⟨2, ![32768, 2048]⟩
abbrev S32768x16 : Shape := ⟨2, ![32768, 16]⟩
abbrev S32768x128 : Shape := ⟨2, ![32768, 128]⟩
abbrev S32768x3200 : Shape := ⟨2, ![32768, 3200]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9488, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x3088, .f32⟩
  | .hbm, ⟨20, _⟩ => ⟨S32768x3088, .f32⟩
  | .hbm, ⟨21, _⟩ => ⟨S32768x1024, .f32⟩
  | .hbm, ⟨22, _⟩ => ⟨S32768x2048, .f32⟩
  | .hbm, ⟨23, _⟩ => ⟨S32768x16, .f32⟩
  | .hbm, ⟨24, _⟩ => ⟨S_, .i32⟩
  | .hbm, ⟨25, _⟩ => ⟨S_, .f32⟩
  | .hbm, ⟨26, _⟩ => ⟨S32768x128, .f32⟩
  | .hbm, ⟨27, _⟩ => ⟨S32768x3200, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel6.lean ====
abbrev S32768x3328 : Shape := ⟨2, ![32768, 3328]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S1x3328 : Shape := ⟨2, ![1, 3328]⟩
abbrev S1x1024 : Shape := ⟨2, ![1, 1024]⟩
abbrev S32768x1024 : Shape := ⟨2, ![32768, 1024]⟩
abbrev S256x3328 : Shape := ⟨2, ![256, 3328]⟩
abbrev S8x3328 : Shape := ⟨2, ![8, 3328]⟩
abbrev S256x1024 : Shape := ⟨2, ![256, 1024]⟩
abbrev S264x3328 : Shape := ⟨2, ![264, 3328]⟩
abbrev S256x64 : Shape := ⟨2, ![256, 64]⟩
abbrev S256x128 : Shape := ⟨2, ![256, 128]⟩

abbrev nBuf : Space → Nat
  | .hbm => 34
  | .vmem => 29
  | .smem => 0
  | _ => 0

abbrev bufTy : (tb : Table) → Fin (tcTables nBuf tb) → BufTy
  | .hbm, ⟨0, _⟩ => ⟨S32768x3328, .f32⟩
  | .hbm, ⟨1, _⟩ => ⟨S3328, .f32⟩
  | .hbm, ⟨2, _⟩ => ⟨S1024, .f32⟩
  | .hbm, ⟨3, _⟩ => ⟨S64x1024, .f32⟩
  | .hbm, ⟨4, _⟩ => ⟨S1024, .f32⟩
  | .hbm, ⟨5, _⟩ => ⟨S64x1024, .f32⟩
  | .hbm, ⟨6, _⟩ => ⟨S128x1024, .f32⟩
  | .hbm, ⟨7, _⟩ => ⟨S1024, .f32⟩
  | .hbm, ⟨8, _⟩ => ⟨S1024, .f32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S128, .i32⟩
  | .hbm, ⟨15, _⟩ => ⟨S1x128, .i32⟩
  | .hbm, ⟨16, _⟩ => ⟨S1024x128, .i32⟩
  | .hbm, ⟨17, _⟩ => ⟨S1024x128, .i32⟩
  | .hbm, ⟨18, _⟩ => ⟨S1024x128, .i1⟩
  | .hbm, ⟨19, _⟩ => ⟨S1024x128, .f32⟩
  | .hbm, ⟨20, _⟩ => ⟨S1024x128, .bf16⟩
  | .hbm, ⟨21, _⟩ => ⟨S128x1024, .bf16⟩
  | .hbm, ⟨22, _⟩ => ⟨S1x3328, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .local _ .vmem, ⟨0, _⟩ => ⟨S256x3328, .f32⟩
  | .local _ .vmem, ⟨1, _⟩ => ⟨S256x3328, .f32⟩
  | .local _ .vmem, ⟨2, _⟩ => ⟨S8x3328, .f32⟩
  | .local _ .vmem, ⟨3, _⟩ => ⟨S8x3328, .f32⟩
  | .local _ .vmem, ⟨4, _⟩ => ⟨S1x3328, .f32⟩
  | .local _ .vmem, ⟨5, _⟩ => ⟨S1x1024, .f32⟩
  | .local _ .vmem, ⟨6, _⟩ => ⟨S64x1024, .f32⟩
  | .local _ .vmem, ⟨7, _⟩ => ⟨S1x1024, .f32⟩
  | .local _ .vmem, ⟨8, _⟩ => ⟨S64x1024, .f32⟩
  | .local _ .vmem, ⟨9, _⟩ => ⟨S128x1024, .f32⟩
  | .local _ .vmem, ⟨10, _⟩ => ⟨S1x1024, .f32⟩
  | .local _ .vmem, ⟨11, _⟩ => ⟨S1x1024, .f32⟩
  | .local _ .vmem, ⟨12, _⟩ => ⟨S1024x128, .bf16⟩
  | .local _ .vmem, ⟨13, _⟩ => ⟨S128x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S264x3328, .f32⟩
  | _, _ => ⟨S32768x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev main_v17_5 : Ref sig .tc := ⟨.hbm, 32, rfl⟩
abbrev main_v17_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference6Ideal.lean ====
abbrev S32768x3328 : Shape := ⟨2, ![32768, 3328]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S2x16384x3328 : Shape := ⟨3, ![2, 16384, 3328]⟩
abbrev S_ : Shape := ⟨0, ![]⟩
abbrev S2x16385x3328 : Shape := ⟨3, ![2, 16385, 3328]⟩
abbrev S1x1x3328 : Shape := ⟨3, ![1, 1, 3328]⟩
abbrev S2x16384x1024 : Shape := ⟨3, ![2, 16384, 1024]⟩
abbrev S2x16384x64 : Shape := ⟨3, ![2, 16384, 64]⟩
abbrev S2x16384x128 : Shape := ⟨3, ![2, 16384, 128]⟩
abbrev S1x1x1024 : Shape := ⟨3, ![1, 1, 1024]⟩
abbrev S2x16384x16x64 : Shape := ⟨4, ![2, 16384, 16, 64]⟩
abbrev S2x16384x16 : Shape := ⟨3, ![2, 16384, 16]⟩
abbrev S2x16384x16x1 : Shape := ⟨4, ![2, 16384, 16, 1]⟩
abbrev S32768x1024 : Shape := ⟨2, ![32768, 1024]⟩

abbrev nBuf : Space → Nat
  | .hbm => 106
  | .vmem => 0
  | .smem => 0
  | _ => 0

abbrev bufTy : (tb : Table) → Fin (tcTables nBuf tb) → BufTy
  | .hbm, ⟨0, _⟩ => ⟨S32768x3328, .f32⟩
  | .hbm, ⟨1, _⟩ => ⟨S3328, .f32⟩
  | .hbm, ⟨2, _⟩ => ⟨S1024, .f32⟩
  | .hbm, ⟨3, _⟩ => ⟨S64x1024, .f32⟩
  | .hbm, ⟨4, _⟩ => ⟨S1024, .f32⟩
  | .hbm, ⟨5, _⟩ => ⟨S64x1024, .f32⟩
  | .hbm, ⟨6, _⟩ => ⟨S128x1024, .f32⟩
  | .hbm, ⟨7, _⟩ => ⟨S1024, .f32⟩
  | .hbm, ⟨8, _⟩ => ⟨S1024, .f32⟩
  | .hbm, ⟨9, _⟩ => ⟨S2x16384x3328, .f32⟩
  | .hbm, ⟨10, _⟩ => ⟨S_, .i32⟩
  | .hbm, ⟨11, _⟩ => ⟨S_, .f32⟩
  | .hbm, ⟨12, _⟩ => ⟨S2x16385x3328, .f32⟩
  | .hbm, ⟨13, _⟩ => ⟨S2x16384x3328, .f32⟩
  | .hbm, ⟨14, _⟩ => ⟨S2x16384x3328, .f32⟩
  | .hbm, ⟨15, _⟩ => ⟨S1x1x3328, .f32⟩
  | .hbm, ⟨16, _⟩ => ⟨S2x16384x3328, .f32⟩
  | .hbm, ⟨17, _⟩ => ⟨S2x16384x3328, .f32⟩
  | .hbm, ⟨18, _⟩ => ⟨S2x16384x3328, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S2x16384x64, .f32⟩
  | .hbm, ⟨23, _⟩ => ⟨S2x16384x64, .f32⟩
  | .hbm, ⟨24, _⟩ => ⟨S2x16384x128, .f32⟩
  | .hbm, ⟨25, _⟩ => ⟨S2x16384x64, .f32⟩
  | .hbm, ⟨26, _⟩ => ⟨S2x16384x1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S_, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .i1⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S_, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S1x1x1024, .f32⟩
  | .hbm, ⟨51, _⟩ => ⟨S2x16384x1024, .f32⟩
  | .hbm, ⟨52, _⟩ => ⟨S2x16384x1024, .f32⟩
  | .hbm, ⟨53, _⟩ => ⟨S2x16384x1024, .f32⟩
  | .hbm, ⟨54, _⟩ => ⟨S2x16384x1024, .f32⟩
  | .hbm, ⟨55, _⟩ => ⟨S_, .f32⟩
  | .hbm, ⟨56, _⟩ => ⟨S2x16384x1024, .f32⟩
  | .hbm, ⟨57, _⟩ => ⟨S2x16384x1024, .f32⟩
  | .hbm, ⟨58, _⟩ => ⟨S_, .f32⟩
  | .hbm, ⟨59, _⟩ => ⟨S2x16384x1024, .f32⟩
  | .hbm, ⟨60, _⟩ => ⟨S2x16384x1024, .f32⟩
  | .hbm, ⟨61, _⟩ => ⟨S2x16384x128, .f32⟩
  | .hbm, ⟨62, _⟩ => ⟨S2x16384x128, .f32⟩
  | .hbm, ⟨63, _⟩ => ⟨S_, .f32⟩
  | .hbm, ⟨64, _⟩ => ⟨S2x16384x128, .f32⟩
  | .hbm, ⟨65, _⟩ => ⟨S2x16384x128, .f32⟩
  | .hbm, ⟨66, _⟩ => ⟨S_, .f32⟩
  | .hbm, ⟨67, _⟩ => ⟨S2x16384x128, .f32⟩
  | .hbm, ⟨68, _⟩ => ⟨S2x16384x128, .f32⟩
  | .hbm, ⟨69, _⟩ => ⟨S2x16384x1024, .f32⟩
  | .hbm, ⟨70, _⟩ => ⟨S1x1x1024, .f32⟩
  | .hbm, ⟨71, _⟩ => ⟨S2x16384x1024, .f32⟩
  | .hbm, ⟨72, _⟩ => ⟨S2x16384x1024, .f32⟩
  | .hbm, ⟨73, _⟩ => ⟨S2x16384x16x64, .f32⟩
  | .hbm, ⟨74, _⟩ => ⟨S2x16384x16x64, .f32⟩
  | .hbm, ⟨75, _⟩ => ⟨S_, .f32⟩
  | .hbm, ⟨76, _⟩ => ⟨S2x16384x16, .f32⟩
  | .hbm, ⟨77, _⟩ => ⟨S2x16384x16x1, .f32⟩
  | .hbm, ⟨78, _⟩ => ⟨S_, .f32⟩
  | .hbm, ⟨79, _⟩ => ⟨S2x16384x16x1, .f32⟩
  | .hbm, ⟨80, _⟩ => ⟨S2x16384x16x1, .f32⟩
  | .hbm, ⟨81, _⟩ => ⟨S2x16384x16x1, .f32⟩
  | .hbm, ⟨82, _⟩ => ⟨S2x16384x16x64, .f32⟩
  | .hbm, ⟨83, _⟩ => ⟨S2x16384x16x64, .f32⟩
  | .hbm, ⟨84, _⟩ => ⟨S2x16384x1024, .f32⟩
  | .hbm, ⟨85, _⟩ => ⟨S_, .f32⟩
  | .hbm, ⟨86, _⟩ => ⟨S2x16384x1024, .f32⟩
  | .hbm, ⟨87, _⟩ => ⟨S2x16384x1024, .f32⟩
  | .hbm, ⟨88, _⟩ => ⟨S1x1x1024, .f32⟩
  | .hbm, ⟨89, _⟩ => ⟨S2x16384x1024, .f32⟩
  | .hbm, ⟨90, _⟩ => ⟨S2x16384x1024, .f32⟩
  | .hbm, ⟨91, _⟩ => ⟨S_, .f32⟩
  | .hbm, ⟨92, _⟩ => ⟨S2x16384x1024, .f32⟩
  | .hbm, ⟨93, _⟩ => ⟨S2x16384x1024, .f32⟩
  | .hbm, ⟨94, _⟩ => ⟨S2x16384x1024, .f32⟩
  | .hbm, ⟨95, _⟩ => ⟨S2x16384x1024, .f32⟩
  | .hbm, ⟨96, _⟩ => ⟨S2x16384x1024, .f32⟩
  | .hbm, ⟨97, _⟩ => ⟨S2x16384x1024, .f32⟩
  | .hbm, ⟨98, _⟩ => ⟨S2x16384x1024, .f32⟩
  | .hbm, ⟨99, _⟩ => ⟨S32768x1024, .f32⟩
  | .hbm, ⟨100, _⟩ => ⟨S32768x1024, .f32⟩
  | .hbm, ⟨101, _⟩ => ⟨S32768x1024, .f32⟩
  | .hbm, ⟨102, _⟩ => ⟨S32768x1024, .f32⟩
  | .hbm, ⟨103, _⟩ => ⟨S32768x1024, .f32⟩
  | .hbm, ⟨104, _⟩ => ⟨S32768x1024, .f32⟩
  | .hbm, ⟨105, _⟩ => ⟨S32768x1024, .f32⟩
  | _, _ => ⟨S32768x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_0 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_2 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_7 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Proof.Merge.lean ====
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

namespace Cert.Proof.Merge

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-- The blocks a grid point reads and writes: its 256 rows of the four inputs and of the result, and the
    gain, the weights and the bias whole. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

/-- A block of rows after the body is the reference's gated merge of those rows. -/
theorem point (c : Dev nD) (t : Fin cfg0.N) (y : S256x1024.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb y) := by
  unfold out0_11
  canon_tiles x h
  pointwise [k0_pay1, k0_pay2, k0_pay3, k0_pay4, val_main_cst_3, val_main_cst_2, val_main_cst_1, val_main_cst_0, val_main_cst, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  simp only [Ideal.logistic]
  blk_point [iblk, idx t]

/-- The kernel's result array is the reference's gated merge of the whole input. -/
theorem final (c : Dev nD) : (dats m 0 c).arrAt 11 (cfgs 0).N
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  exact point m c t y

end Cert.Proof.Merge
-- ==== Proof.Project3.lean ====
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

namespace Cert.Proof.Project3

open Cert.Kernel3Ideal Cert.Kernel3Ideal.Gen Idealize.ShloMosaic Idealize.ShloMosaic.TcCoe Idealize.SL.Sem
open Idealize.ShloMosaic.Pipeline (Dat)
open Cert.Reference3Ideal.Read

variable (m : (ℓ : Loc nD τ sig) → Buf (Elt Ideal) ℓ)

/-- The blocks a grid point reads and writes: its 512 rows, and the gain and the weight whole. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The weight the kernel is given is the reference's slice of the projection weight. -/
theorem weight (c : Dev nD) (j : S1024x3072.Idx) :
    (V m c main_v1 : Vec Ideal S1024x3072 .bf16) j = m ((c : Thread nD τ).loc main_arg2) (ix2 (⟨j 0, (j 0).isLt⟩ : Fin 1024) (⟨3088 + j 1, by have : (j 1 : ℕ) < 3072 := (j 1).isLt; omega⟩ : Fin 9488)) := by
  entry_read
  pointwise

/-- One output chunk of a block of rows, read at an entry, is the reference's projection there, when the
    weight chunk holds the reference's weight columns. -/
theorem core (c : Dev nD) (t : Fin cfg0.N) (W : Vec Ideal S1024x512 .bf16) (x : S512x512.Idx) (j : S32768x3072.Idx)
    (hW : ∀ (k : Fin 1024) (h : 3088 + (j 1 : ℕ) < 9488), W (ix2 k (x 1)) = m ((c : Thread nD τ).loc main_arg2) (ix2 k ⟨3088 + (j 1 : ℕ), h⟩))
    (hj0 : (j 0 : ℕ) = t.val * 512 + x 0) :
    k0_pay1 (F := Ideal) (k0_pay3 (F := Ideal) (View.ld (iblk m c 0 t) r0_0) (View.ld (iblk m c 1 t) r0_1)) W x
      = val_main_v14 (F := Ideal) (m ((c : Thread nD τ).loc main_arg0)) (m ((c : Thread nD τ).loc main_arg1)) (m ((c : Thread nD τ).loc main_arg2)) j := by
  pointwise [k0_pay1, k0_pay3, val_main_v14, val_main_v12, val_main_v13, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]
  exact hW _ _

/-- The chunks are the same product, over the same normalized rows. -/
theorem pay2 (h : FVec Ideal S512x1024 .bf16) (w) : k0_pay2 h w = k0_pay1 h w := rfl
theorem pay4 (x : Vec Ideal S512x1024 .f32) (g w) : k0_pay4 x g w = k0_pay1 (k0_pay3 x g) w := rfl
theorem pay5 (x : Vec Ideal S512x1024 .f32) (g w) : k0_pay5 x g w = k0_pay1 (k0_pay3 x g) w := rfl
theorem pay6 (x : Vec Ideal S512x1024 .f32) (g w) : k0_pay6 x g w = k0_pay1 (k0_pay3 x g) w := rfl
theorem pay7 (x : Vec Ideal S512x1024 .f32) (g w) : k0_pay7 x g w = k0_pay1 (k0_pay3 x g) w := rfl
theorem pay8 (x : Vec Ideal S512x1024 .f32) (g w) : k0_pay8 x g w = k0_pay3 (View.ld x r0_0) (View.ld g r0_1) := rfl

/-- A block of rows after the body is the reference's projection of those rows. -/
theorem point (c : Dev nD) (t : Fin cfg0.N) (y : S512x3072.Idx) :
    out0_3 (iblk m c 0 t) (iblk m c 1 t) (iblk m c 2 t) y = val_main_v14 (F := Ideal) (m ((c : Thread nD τ).loc main_arg0)) (m ((c : Thread nD τ).loc main_arg1)) (m ((c : Thread nD τ).loc main_arg2)) (((cfg0.win 3).blk t).view.emb y) := by
  unfold out0_3
  simp only [pay2, pay4, pay5, pay6, pay7, pay8]
  canon_tiles x h
  all_goals
    refine core m c t _ x _ (fun k hk => ?_) ?_
    · pointwise
      blk_simp [iblk, idx t]
      refine (weight m c _).trans ?_
      blk_ext [idx t]
    · blk_simp [idx t] <;> omega

/-- The kernel's result array is the reference's projection of the whole input. -/
theorem final (c : Dev nD) : (dats m 0 c).arrAt 3 (cfgs 0).N
    = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Proof.Project3
-- ==== Proof.Project4.lean ====
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

namespace Cert.Proof.Project4

open Cert.Kernel4Ideal Cert.Kernel4Ideal.Gen Idealize.ShloMosaic Idealize.ShloMosaic.TcCoe Idealize.SL.Sem
open Idealize.ShloMosaic.Pipeline (Dat)
open Cert.Reference4Ideal.Read

variable (m : (ℓ : Loc nD τ sig) → Buf (Elt Ideal) ℓ)

/-- The blocks a grid point reads and writes: its 512 rows, and the gain and the weight whole. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The weight the kernel is given is the reference's slice of the projection weight. -/
theorem weight (c : Dev nD) (j : S1024x3328.Idx) :
    (V m c main_v1 : Vec Ideal S1024x3328 .bf16) j = m ((c : Thread nD τ).loc main_arg2) (ix2 (⟨j 0, (j 0).isLt⟩ : Fin 1024) (⟨6160 + j 1, by have : (j 1 : ℕ) < 3328 := (j 1).isLt; omega⟩ : Fin 9488)) := by
  entry_read
  pointwise

/-- One output chunk of a block of rows, read at an entry, is the reference's projection there, when the
    weight chunk holds the reference's weight columns. -/
theorem core (c : Dev nD) (t : Fin cfg0.N) (W : Vec Ideal S1024x256 .bf16) (x : S512x256.Idx) (j : S32768x3328.Idx)
    (hW : ∀ (k : Fin 1024) (h : 6160 + (j 1 : ℕ) < 9488), W (ix2 k (x 1)) = m ((c : Thread nD τ).loc main_arg2) (ix2 k ⟨6160 + (j 1 : ℕ), h⟩))
    (hj0 : (j 0 : ℕ) = t.val * 512 + x 0) :
    k0_pay1 (F := Ideal) (k0_pay4 (F := Ideal) (View.ld (iblk m c 0 t) r0_0) (View.ld (iblk m c 1 t) r0_1)) W x
      = val_main_v14 (F := Ideal) (m ((c : Thread nD τ).loc main_arg0)) (m ((c : Thread nD τ).loc main_arg1)) (m ((c : Thread nD τ).loc main_arg2)) j := by
  pointwise [k0_pay1, k0_pay4, val_main_v14, val_main_v12, val_main_v13, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]
  exact hW _ _

/-- The chunks are the same product, over the same normalized rows. -/
theorem pay2 (h : FVec Ideal S512x1024 .bf16) (w) : k0_pay2 h w = k0_pay1 h w := rfl
theorem pay3 (h : FVec Ideal S512x1024 .bf16) (w) : k0_pay3 h w = k0_pay1 h w := rfl
theorem pay9 (h : FVec Ideal S512x1024 .bf16) (w) : k0_pay9 h w = k0_pay1 h w := rfl
theorem pay10 (h : FVec Ideal S512x1024 .bf16) (w) : k0_pay10 h w = k0_pay1 h w := rfl
theorem pay11 (h : FVec Ideal S512x1024 .bf16) (w) : k0_pay11 h w = k0_pay1 h w := rfl
theorem pay12 (h : FVec Ideal S512x1024 .bf16) (w) : k0_pay12 h w = k0_pay1 h w := rfl
theorem pay13 (h : FVec Ideal S512x1024 .bf16) (w) : k0_pay13 h w = k0_pay1 h w := rfl
theorem pay14 (h : FVec Ideal S512x1024 .bf16) (w) : k0_pay14 h w = k0_pay1 h w := rfl
theorem pay5 (x : Vec Ideal S512x1024 .f32) (g w) : k0_pay5 x g w = k0_pay1 (k0_pay4 x g) w := rfl
theorem pay6 (x : Vec Ideal S512x1024 .f32) (g w) : k0_pay6 x g w = k0_pay1 (k0_pay4 x g) w := rfl
theorem pay7 (x : Vec Ideal S512x1024 .f32) (g w) : k0_pay7 x g w = k0_pay1 (k0_pay4 x g) w := rfl
theorem pay8 (x : Vec Ideal S512x1024 .f32) (g w) : k0_pay8 x g w = k0_pay1 (k0_pay4 x g) w := rfl
theorem pay15 (x : Vec Ideal S512x1024 .f32) (g w) : k0_pay15 x g w = k0_pay4 (View.ld x r0_0) (View.ld g r0_1) := rfl

/-- A block of rows after the body is the reference's projection of those rows. -/
theorem point (c : Dev nD) (t : Fin cfg0.N) (y : S512x3328.Idx) :
    out0_3 (iblk m c 0 t) (iblk m c 1 t) (iblk m c 2 t) y = val_main_v14 (F := Ideal) (m ((c : Thread nD τ).loc main_arg0)) (m ((c : Thread nD τ).loc main_arg1)) (m ((c : Thread nD τ).loc main_arg2)) (((cfg0.win 3).blk t).view.emb y) := by
  unfold out0_3
  simp only [pay2, pay3, pay5, pay6, pay7, pay8, pay9, pay10, pay11, pay12, pay13, pay14, pay15]
  canon_tiles x h
  all_goals
    refine core m c t _ x _ (fun k hk => ?_) ?_
    · pointwise
      blk_simp [iblk, idx t]
      refine (weight m c _).trans ?_
      blk_ext [idx t]
    · blk_simp [idx t] <;> omega

/-- The kernel's result array is the reference's projection of the whole input. -/
theorem final (c : Dev nD) : (dats m 0 c).arrAt 3 (cfgs 0).N
    = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Proof.Project4
-- ==== Proof.Project5.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.StableHlo.RunRead

@[expose] public section

set_option maxRecDepth 16384

namespace Cert.Proof.Project5

open Cert.Kernel5Ideal Cert.Kernel5Ideal.Gen Idealize.ShloMosaic Idealize.ShloMosaic.TcCoe Idealize.SL.Sem
open Idealize.ShloMosaic.Pipeline (Dat)
open Cert.Reference5Ideal.Read

variable (m : (ℓ : Loc nD τ sig) → Buf (Elt Ideal) ℓ)

/-- The blocks a grid point reads and writes: its 512 rows, and the gain and the weight whole. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The gain the kernel is given is the argument as a row. -/
theorem gain (c : Dev nD) (j : S1x1024.Idx) :
    (V m c main_v7 : Vec Ideal S1x1024 .f32) j = m ((c : Thread nD τ).loc main_arg1) (ix1 (⟨j 1, (j 1).isLt⟩ : Fin 1024)) := by
  unfold V
  after_reads_simp
  pointwise

/-- The weight the kernel is given: the three column ranges side by side, the last padded with zeros. -/
theorem V6 (c : Dev nD) : (V m c main_v6 : Vec Ideal S1024x3200 .bf16) =
    truncf (F := Ideal) .bf16 (concatenate S1024x3200 1
      [⟨S1024x2048, extractStridedSlice S1024x2048 ![0, 1024] (extractStridedSlice S1024x3088 ![0, 0] (m ((c : Thread nD τ).loc main_arg2) : FVec Ideal S1024x9488 .f32) slices_S1024x9488_S1024x3088_0_0) slices_S1024x3088_S1024x2048_0_1024⟩,
       ⟨S1024x1024, extractStridedSlice S1024x1024 ![0, 0] (extractStridedSlice S1024x3088 ![0, 0] (m ((c : Thread nD τ).loc main_arg2) : FVec Ideal S1024x9488 .f32) slices_S1024x9488_S1024x3088_0_0) slices_S1024x3088_S1024x1024_0_0⟩,
       ⟨S1024x128, pad S1024x128 ![0, 0] ![0, 112] ![0, 0] (extractStridedSlice S1024x16 ![0, 3072] (extractStridedSlice S1024x3088 ![0, 0] (m ((c : Thread nD τ).loc main_arg2) : FVec Ideal S1024x9488 .f32) slices_S1024x9488_S1024x3088_0_0) slices_S1024x3088_S1024x16_0_3072) (sitofp (F := Ideal) .f32 (constantI S_ 32 0#32)) pads_S1024x16_S1024x128_000_01120 h_S_⟩]
      concatenates_S1024x2048_S1024x1024_S1024x128_S1024x3200_d1) bitsLt_bf16_f32 := by
  unfold V
  have e2 : StableHlo.upto (List.flatten [hostOps0, hostOps0_1, hostOps0_2]) (fun b => m (c, b)) 7 (Proc.tc.devRef (![main_v2, main_v1, main_v4] 0))
      = extractStridedSlice S1024x2048 ![0, 1024] (extractStridedSlice S1024x3088 ![0, 0] (m ((c : Thread nD τ).loc main_arg2) : FVec Ideal S1024x9488 .f32) slices_S1024x9488_S1024x3088_0_0) slices_S1024x3088_S1024x2048_0_1024 := by
    change StableHlo.upto _ _ 7 (Proc.tc.devRef main_v2) = _
    after_reads_simp
  have e1 : StableHlo.upto (List.flatten [hostOps0, hostOps0_1, hostOps0_2]) (fun b => m (c, b)) 7 (Proc.tc.devRef (![main_v2, main_v1, main_v4] 1))
      = extractStridedSlice S1024x1024 ![0, 0] (extractStridedSlice S1024x3088 ![0, 0] (m ((c : Thread nD τ).loc main_arg2) : FVec Ideal S1024x9488 .f32) slices_S1024x9488_S1024x3088_0_0) slices_S1024x3088_S1024x1024_0_0 := by
    change StableHlo.upto _ _ 7 (Proc.tc.devRef main_v1) = _
    after_reads_simp
  have e4 : StableHlo.upto (List.flatten [hostOps0, hostOps0_1, hostOps0_2]) (fun b => m (c, b)) 7 (Proc.tc.devRef (![main_v2, main_v1, main_v4] 2))
      = pad S1024x128 ![0, 0] ![0, 112] ![0, 0] (extractStridedSlice S1024x16 ![0, 3072] (extractStridedSlice S1024x3088 ![0, 0] (m ((c : Thread nD τ).loc main_arg2) : FVec Ideal S1024x9488 .f32) slices_S1024x9488_S1024x3088_0_0) slices_S1024x3088_S1024x16_0_3072) (sitofp (F := Ideal) .f32 (constantI S_ 32 0#32)) pads_S1024x16_S1024x128_000_01120 h_S_ := by
    change StableHlo.upto _ _ 7 (Proc.tc.devRef main_v4) = _
    after_reads_simp
    rfl
  after_reads_simp
  rw [e2, e1, e4]

/-- A column of the padded weight the kernel is given, by the range it falls in. -/
theorem weight (c : Dev nD) (k : Fin 1024) (q : Fin 3200) :
    (V m c main_v6 : Vec Ideal S1024x3200 .bf16) (ix2 k q) =
      if h : (q : ℕ) < 2048 then m ((c : Thread nD τ).loc main_arg2) (ix2 k (⟨1024 + q, by omega⟩ : Fin 9488))
      else if h : (q : ℕ) < 3072 then m ((c : Thread nD τ).loc main_arg2) (ix2 k (⟨q - 2048, by omega⟩ : Fin 9488))
      else if h : (q : ℕ) < 3088 then m ((c : Thread nD τ).loc main_arg2) (ix2 k (⟨q, by omega⟩ : Fin 9488)) else (0 : EReal) := by
  rw [V6]
  pointwise
  have hz : (FloatOps.sitofp (F := Ideal) .f32 (0#32 : BitVec 32) : EReal) = 0 := by
    show (((0#32 : BitVec 32).toInt : ℝ) : EReal) = 0
    simp
  by_cases h1 : (q : ℕ) < 2048
  · simp only [h1, dite_true]
  · by_cases h2 : (q : ℕ) < 3072
    · simp only [h1, h2, show (q : ℕ) - 2048 < 1024 by omega, dite_true, dite_false]
    · by_cases h3 : (q : ℕ) < 3088
      · simp only [h1, h2, h3, show ¬ (q : ℕ) - 2048 < 1024 by omega, show (q : ℕ) - 2048 - 1024 < 16 by omega, dite_true, dite_false]
        blk_ext []
      · simp only [h1, h2, h3, show ¬ (q : ℕ) - 2048 < 1024 by omega, show ¬ (q : ℕ) - 2048 - 1024 < 16 by omega, dite_false]
        exact hz

/-- One output chunk of a block of rows, read at an entry, is the reference's projection there, when the
    weight chunk holds the padded weight's columns. -/
theorem core (c : Dev nD) (t : Fin cfg0.N) (W : Vec Ideal S1024x128 .bf16) (x : S512x128.Idx) (j : S32768x3200.Idx)
    (hW : ∀ k : Fin 1024, W (ix2 k (x 1)) = (V m c main_v6 : Vec Ideal S1024x3200 .bf16) (ix2 k (j 1)))
    (hj0 : (j 0 : ℕ) = t.val * 512 + x 0) :
    k0_pay1 (F := Ideal) (k0_pay4 (F := Ideal) (View.ld (iblk m c 0 t) r0_0) (View.ld (iblk m c 1 t) r0_1)) W x
      = val_main_v19 (F := Ideal) (m ((c : Thread nD τ).loc main_arg0)) (m ((c : Thread nD τ).loc main_arg1)) (m ((c : Thread nD τ).loc main_arg2)) j := by
  pointwise [k0_pay1, k0_pay4, val_main_v19, val_main_v18, val_main_c, val_main_call0_v0, val_main_v17, val_main_v16, val_main_v15, val_main_v14, val_main_v12, val_main_v13, val_main_v11, val_main_v10, val_main_v9, val_main_v8, val_main_v7, val_main_v6, val_main_v5, val_main_v4, val_main_v3, val_main_v2, val_main_v1, val_main_v0, val_main_cst, val_main_cst_0, val_main_cst_1]
  have hW' := fun k => (hW k).trans (weight m c k (j 1))
  simp only [hW']
  have hz : (FloatOps.sitofp (F := Ideal) .f32 (0#32 : BitVec 32) : EReal) = 0 := by
    show (((0#32 : BitVec 32).toInt : ℝ) : EReal) = 0
    simp
  by_cases h1 : (j 1 : ℕ) < 2048
  · simp only [h1, dite_true]
    blk_point [iblk, idx t]
    refine (gain m c _).trans ?_
    blk_ext [idx t]
  · by_cases h2 : (j 1 : ℕ) < 3072
    · have h2' : (j 1 : ℕ) - 2048 < 1024 := by omega
      simp only [h1, h2, h2', dite_true, dite_false]
      blk_point [iblk, idx t]
      refine (gain m c _).trans ?_
      blk_ext [idx t]
    · have h2' : ¬ (j 1 : ℕ) - 2048 < 1024 := by omega
      by_cases h3 : (j 1 : ℕ) < 3088
      · have h3' : (j 1 : ℕ) - 2048 - 1024 < 16 := by omega
        simp only [h1, h2, h2', h3, h3', dite_true, dite_false]
        blk_point [iblk, idx t]
        refine (gain m c _).trans ?_
        blk_ext [idx t]
      · have h3' : ¬ (j 1 : ℕ) - 2048 - 1024 < 16 := by omega
        simp only [h1, h2, h2', h3, h3', dite_false]
        refine Eq.trans ?_ hz.symm
        exact Finset.sum_eq_zero fun k _ => mul_zero _

/-- The chunks are the same product, over the same normalized rows. -/
theorem pay2 (h : FVec Ideal S512x1024 .bf16) (w) : k0_pay2 h w = k0_pay1 h w := rfl
theorem pay3 (h : FVec Ideal S512x1024 .bf16) (w) : k0_pay3 h w = k0_pay1 h w := rfl
theorem pay9 (h : FVec Ideal S512x1024 .bf16) (w) : k0_pay9 h w = k0_pay1 h w := rfl
theorem pay10 (h : FVec Ideal S512x1024 .bf16) (w) : k0_pay10 h w = k0_pay1 h w := rfl
theorem pay11 (h : FVec Ideal S512x1024 .bf16) (w) : k0_pay11 h w = k0_pay1 h w := rfl
theorem pay12 (h : FVec Ideal S512x1024 .bf16) (w) : k0_pay12 h w = k0_pay1 h w := rfl
theorem pay13 (h : FVec Ideal S512x1024 .bf16) (w) : k0_pay13 h w = k0_pay1 h w := rfl
theorem pay14 (h : FVec Ideal S512x1024 .bf16) (w) : k0_pay14 h w = k0_pay1 h w := rfl
theorem pay15 (h : FVec Ideal S512x1024 .bf16) (w) : k0_pay15 h w = k0_pay1 h w := rfl
theorem pay16 (h : FVec Ideal S512x1024 .bf16) (w) : k0_pay16 h w = k0_pay1 h w := rfl
theorem pay17 (h : FVec Ideal S512x1024 .bf16) (w) : k0_pay17 h w = k0_pay1 h w := rfl
theorem pay18 (h : FVec Ideal S512x1024 .bf16) (w) : k0_pay18 h w = k0_pay1 h w := rfl
theorem pay19 (h : FVec Ideal S512x1024 .bf16) (w) : k0_pay19 h w = k0_pay1 h w := rfl
theorem pay20 (h : FVec Ideal S512x1024 .bf16) (w) : k0_pay20 h w = k0_pay1 h w := rfl
theorem pay21 (h : FVec Ideal S512x1024 .bf16) (w) : k0_pay21 h w = k0_pay1 h w := rfl
theorem pay22 (h : FVec Ideal S512x1024 .bf16) (w) : k0_pay22 h w = k0_pay1 h w := rfl
theorem pay23 (h : FVec Ideal S512x1024 .bf16) (w) : k0_pay23 h w = k0_pay1 h w := rfl
theorem pay24 (h : FVec Ideal S512x1024 .bf16) (w) : k0_pay24 h w = k0_pay1 h w := rfl
theorem pay25 (h : FVec Ideal S512x1024 .bf16) (w) : k0_pay25 h w = k0_pay1 h w := rfl
theorem pay26 (h : FVec Ideal S512x1024 .bf16) (w) : k0_pay26 h w = k0_pay1 h w := rfl
theorem pay5 (x : Vec Ideal S512x1024 .f32) (g w) : k0_pay5 x g w = k0_pay1 (k0_pay4 x g) w := rfl
theorem pay6 (x : Vec Ideal S512x1024 .f32) (g w) : k0_pay6 x g w = k0_pay1 (k0_pay4 x g) w := rfl
theorem pay7 (x : Vec Ideal S512x1024 .f32) (g w) : k0_pay7 x g w = k0_pay1 (k0_pay4 x g) w := rfl
theorem pay8 (x : Vec Ideal S512x1024 .f32) (g w) : k0_pay8 x g w = k0_pay1 (k0_pay4 x g) w := rfl
theorem pay27 (x : Vec Ideal S512x1024 .f32) (g w) : k0_pay27 x g w = k0_pay4 (View.ld x r0_0) (View.ld g r0_1) := rfl

set_option maxHeartbeats 4000000 in
/-- A block of rows after the body is the reference's projection of those rows. -/
theorem point (c : Dev nD) (t : Fin cfg0.N) (y : S512x3200.Idx) :
    out0_3 (iblk m c 0 t) (iblk m c 1 t) (iblk m c 2 t) y = val_main_v19 (F := Ideal) (m ((c : Thread nD τ).loc main_arg0)) (m ((c : Thread nD τ).loc main_arg1)) (m ((c : Thread nD τ).loc main_arg2)) (((cfg0.win 3).blk t).view.emb y) := by
  unfold out0_3
  simp only [pay2, pay3, pay5, pay6, pay7, pay8, pay9, pay10, pay11, pay12, pay13, pay14, pay15, pay16, pay17, pay18, pay19, pay20, pay21, pay22, pay23, pay24, pay25, pay26, pay27]
  canon_tiles x h
  all_goals
    refine core m c t _ x _ (fun k => ?_) ?_
    · pointwise
      blk_simp [iblk, idx t]
      blk_ext [idx t]
    · blk_simp [idx t] <;> omega

/-- The kernel's result array is the reference's projection of the whole input. -/
theorem final (c : Dev nD) : (dats m 0 c).arrAt 3 (cfgs 0).N
    = val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Proof.Project5
-- ==== Proof.PrepSpec.lean ====
module

public import Idealize.ShloMosaic.PureOps.Ideal.Laws
public import Idealize.ShloMosaic.Lib.Pipeline.ValueKit

@[expose] public section

set_option maxRecDepth 16384

noncomputable section

namespace Cert.Proof.Prep

open Idealize.ShloMosaic

/-! ## What the delta rule's preparation computes -/

/-- A softplus. -/
def splus (z : EReal) : EReal := max z 0 + Ideal.log1p (Ideal.exp (0 - max z (-z)))

/-- The constant one half, by its pattern. -/
def half : EReal := Ideal.ofBits FTy.f32 0x3F000000#32

/-- The least squared length of a key, by its pattern. -/
def least : EReal := Ideal.ofBits FTy.f32 0x2B8CBCCC#32

/-- A row mixed with the row before it, which is zero at the start of a sequence. -/
def mixed (P : Fin 32768 → Fin 3328 → EReal) (M : Fin 3328 → EReal) (r : Fin 32768) (c : Fin 3328) : EReal :=
  P r c + ((if r.val % 16384 = 0 then 0 else P ⟨r.val - 1, by omega⟩ c) - P r c) * M c

/-- The log decay, before its exponential. -/
def decay (x : Fin 3328 → EReal) (w0 : Fin 1024 → EReal) (w : Fin 64 → Fin 1024 → EReal) (p : Fin 1024) : EReal :=
  0 - splus (0 - (w0 p + ∑ k : Fin 64, Ideal.tanh (x ⟨3072 + k.val, by omega⟩) * w k p)) - half

/-- The learning rate. -/
def rate (x : Fin 3328 → EReal) (a0 : Fin 1024 → EReal) (w : Fin 64 → Fin 1024 → EReal) (p : Fin 1024) : EReal :=
  Ideal.logistic (a0 p + ∑ k : Fin 64, x ⟨3136 + k.val, by omega⟩ * w k p)

/-- The output gate. -/
def gate (x : Fin 3328 → EReal) (w : Fin 128 → Fin 1024 → EReal) (p : Fin 1024) : EReal :=
  ∑ k : Fin 128, Ideal.logistic (x ⟨3200 + k.val, by omega⟩) * w k p

/-- The weighted key. -/
def key (x : Fin 3328 → EReal) (kk : Fin 1024 → EReal) (p : Fin 1024) : EReal := x ⟨1024 + p.val, by omega⟩ * kk p

/-- The squared length of the weighted key over a head. -/
def len (x : Fin 3328 → EReal) (kk : Fin 1024 → EReal) (p : Fin 1024) : EReal :=
  ∑ j : Fin 64, key x kk ⟨p.val / 64 * 64 + j.val, by omega⟩ * key x kk ⟨p.val / 64 * 64 + j.val, by omega⟩

/-- The normalized key. -/
def unit (x : Fin 3328 → EReal) (kk : Fin 1024 → EReal) (p : Fin 1024) : EReal :=
  key x kk p * Ideal.rsqrt (max (len x kk p) least)

/-! ## Finite values -/

/-- A value that is neither infinity. -/
def Real (x : EReal) : Prop := x ≠ ⊤ ∧ x ≠ ⊥

/-- A finite value less itself is zero. -/
theorem Real.sub_self {x : EReal} (h : Real x) : x - x = 0 := EReal.sub_self h.1 h.2

/-- A real number is finite. -/
theorem real_coe (r : ℝ) : Real (r : EReal) := ⟨EReal.coe_ne_top _, EReal.coe_ne_bot _⟩

/-- A finite value is a real number. -/
theorem Real.exists {x : EReal} (h : Real x) : ∃ r : ℝ, x = (r : EReal) := ⟨x.toReal, (EReal.coe_toReal h.1 h.2).symm⟩

/-- Zero is finite. -/
theorem real_zero : Real 0 := real_coe 0

/-- A sum of finite values is finite. -/
theorem Real.add {x y : EReal} (hx : Real x) (hy : Real y) : Real (x + y) := by
  obtain ⟨a, rfl⟩ := hx.exists
  obtain ⟨b, rfl⟩ := hy.exists
  rw [← EReal.coe_add]; exact real_coe _

/-- A difference of finite values is finite. -/
theorem Real.sub {x y : EReal} (hx : Real x) (hy : Real y) : Real (x - y) := by
  obtain ⟨a, rfl⟩ := hx.exists
  obtain ⟨b, rfl⟩ := hy.exists
  rw [← EReal.coe_sub]; exact real_coe _

/-- A product of finite values is finite. -/
theorem Real.mul {x y : EReal} (hx : Real x) (hy : Real y) : Real (x * y) := by
  obtain ⟨a, rfl⟩ := hx.exists
  obtain ⟨b, rfl⟩ := hy.exists
  rw [← EReal.coe_mul]; exact real_coe _

/-- A sum over finitely many finite values is finite. -/
theorem Real.sum {n : ℕ} {f : Fin n → EReal} (h : ∀ k, Real (f k)) : Real (∑ k, f k) :=
  Finset.sum_induction f Real (fun _ _ => Real.add) real_zero fun k _ => h k

/-- A hyperbolic tangent is finite. -/
theorem real_tanh (x : EReal) : Real (Ideal.tanh x) := by
  induction x using EReal.rec with
  | bot => show Real (-1); exact (by simpa using real_coe (-1))
  | top => show Real 1; exact real_coe 1
  | coe r => exact real_coe _

/-- A logistic value is finite where its argument is. -/
theorem real_logistic {x : EReal} (h : Real x) : Real (Ideal.logistic x) := by
  obtain ⟨r, rfl⟩ := h.exists
  have e : (1 : EReal) + Ideal.exp (-(r : EReal)) = ((1 + Real.exp (-r) : ℝ) : EReal) := by
    rw [← EReal.coe_neg, EReal.coe_add, EReal.coe_one]; rfl
  have hp : (1 + _root_.Real.exp (-r) : ℝ) ≠ 0 := by have := _root_.Real.exp_pos (-r); positivity
  unfold Ideal.logistic Ideal.div
  rw [e, if_neg (by exact_mod_cast hp), ← EReal.coe_inv, one_mul]
  exact real_coe _

/-- A mixed row is finite where the rows and the mix are. -/
theorem real_mixed {P : Fin 32768 → Fin 3328 → EReal} {M : Fin 3328 → EReal} (hP : ∀ r c, Real (P r c)) (hM : ∀ c, Real (M c))
    (r : Fin 32768) (c : Fin 3328) : Real (mixed P M r c) := by
  unfold mixed
  refine (hP _ _).add (Real.mul (Real.sub ?_ (hP _ _)) (hM _))
  split
  · exact real_zero
  · exact hP _ _

/-- A weighted key is finite where the row and the weight are. -/
theorem real_key {x : Fin 3328 → EReal} {kk : Fin 1024 → EReal} (hx : ∀ c, Real (x c)) (hk : ∀ p, Real (kk p)) (p : Fin 1024) :
    Real (key x kk p) := (hx _).mul (hk _)

/-! ## Products in two halves, and sums over heads -/

/-- A product of finite values taken in halves is the product. -/
theorem halves {n : ℕ} (x w : Fin n → EReal) (hx : ∀ k, Real (x k)) (hw : ∀ k, Real (w k)) :
    (∑ k, x k * w k) + (∑ k, (x k - x k) * w k) + (∑ k, x k * (w k - w k)) = ∑ k, x k * w k := by
  have h1 : (∑ k, (x k - x k) * w k) = 0 := Finset.sum_eq_zero fun k _ => by rw [(hx k).sub_self, zero_mul]
  have h2 : (∑ k, x k * (w k - w k)) = 0 := Finset.sum_eq_zero fun k _ => by rw [(hw k).sub_self, mul_zero]
  rw [h1, h2, add_zero, add_zero]

/-- A sum through a head's column of the table is the sum over the head. -/
theorem through (s : Fin 1024 → EReal) (p : Fin 1024) :
    (∑ k : Fin 1024, s k * (if k.val / 64 = p.val / 64 then 1 else 0)) = ∑ j : Fin 64, s ⟨p.val / 64 * 64 + j.val, by omega⟩ := by
  have hp : p.val / 64 < 16 := by omega
  rw [← Fintype.sum_equiv (finProdFinEquiv : Fin 16 × Fin 64 ≃ Fin 1024)
    (fun q => s ⟨q.1.val * 64 + q.2.val, by omega⟩ * (if q.1.val = p.val / 64 then (1 : EReal) else 0)) _ ?_]
  · rw [Fintype.sum_prod_type, Finset.sum_eq_single (⟨p.val / 64, hp⟩ : Fin 16)]
    · exact Finset.sum_congr rfl fun j _ => by rw [if_pos rfl, mul_one]
    · intro i _ hi
      exact Finset.sum_eq_zero fun j _ => by rw [if_neg (fun h => hi (Fin.ext h)), mul_zero]
    · intro h; exact absurd (Finset.mem_univ _) h
  · rintro ⟨i, j⟩
    have e : (finProdFinEquiv (i, j) : Fin 1024) = ⟨i.val * 64 + j.val, by omega⟩ := Fin.ext (by
      show j.val + 64 * i.val = i.val * 64 + j.val
      omega)
    rw [e]
    have : (i.val * 64 + j.val) / 64 = i.val := by omega
    simp only [this]

/-- A value read out of a row through the head table. -/
theorem pick (y : Fin 128 → EReal) (p : Fin 1024) :
    (∑ h : Fin 128, y h * (if p.val / 64 = h.val then 1 else 0)) = y ⟨p.val / 64, by omega⟩ := by
  rw [Finset.sum_eq_single (⟨p.val / 64, by omega⟩ : Fin 128)]
  · rw [if_pos rfl, mul_one]
  · intro i _ hi
    rw [if_neg (fun h => hi (Fin.ext h.symm)), mul_zero]
  · intro h; exact absurd (Finset.mem_univ _) h

/-- A sum over a head taken through the table and read back through it, each in halves. -/
theorem heads (s : Fin 1024 → EReal) (hs : ∀ k, Real (s k)) (e : Fin 1024 → Fin 128 → EReal)
    (he : ∀ k h, e k h = if k.val / 64 = h.val then 1 else 0) (p : Fin 1024) :
    (∑ h : Fin 128, ((∑ k, s k * e k h) + (∑ k, (s k - s k) * e k h)) * e p h)
      + (∑ h : Fin 128, (((∑ k, s k * e k h) + (∑ k, (s k - s k) * e k h)) - ((∑ k, s k * e k h) + (∑ k, (s k - s k) * e k h))) * e p h)
      = ∑ j : Fin 64, s ⟨p.val / 64 * 64 + j.val, by omega⟩ := by
  have h1 : ∀ h, (∑ k, (s k - s k) * e k h) = 0 := fun h => Finset.sum_eq_zero fun k _ => by rw [(hs k).sub_self, zero_mul]
  have hr : ∀ h, Real (∑ k, s k * e k h) := fun h => Real.sum fun k => (hs k).mul (by
    rw [he]
    split
    · exact real_coe 1
    · exact real_zero)
  have h2 : ∀ h, (∑ k, s k * e k h) - (∑ k, s k * e k h) = 0 := fun h => (hr h).sub_self
  simp only [h1, add_zero, h2, zero_mul, Finset.sum_const_zero]
  simp only [he]
  rw [pick (fun h => ∑ k, s k * (if k.val / 64 = h.val then 1 else 0)) p]
  exact through s p

end Cert.Proof.Prep

end
end
-- ==== Proof.PrepPayloads.lean ====
module

public import proofs.«01_k».proof.Proof.PrepSpec
public import proofs.«01_k».proof.Proof.Gen.Kernel6Ideal.Skeleton
public import Idealize.ShloMosaic.Lib.Pipeline.ValueKit

@[expose] public section

set_option maxRecDepth 16384

noncomputable section

namespace Cert.Proof.Prep

open Cert.Kernel6Ideal Cert.Kernel6Ideal.Gen Idealize.ShloMosaic

/-! ## The kernel's values at an entry -/

section
variable {v0 v21 : FVec Ideal S256x3328 .f32} {v23 : FVec Ideal S1x3328 .f32}

/-- The mixed rows. -/
theorem pay3_at (l : Fin 256) (c : Fin 3328) :
    k0_pay3 (F := Ideal) v0 v21 v23 (ix2 l c) = v0 (ix2 l c) + (v21 (ix2 l c) - v0 (ix2 l c)) * v23 (ix2 0 c) := by
  pointwise [k0_pay3]

variable {xs : Fin 3328 → EReal} {l : Fin 256} (hxs : ∀ c, k0_pay3 (F := Ideal) v0 v21 v23 (ix2 l c) = xs c)
include hxs

/-- The first columns of the mixed rows: the receptance. -/
theorem pay4_at (p : Fin 1024) : k0_pay4 (F := Ideal) v0 v21 v23 (ix2 l p) = xs ⟨p.val, by omega⟩ := by
  rw [← hxs]; pointwise [k0_pay4]

/-- The next columns: the key. -/
theorem pay5_at (p : Fin 1024) : k0_pay5 (F := Ideal) v0 v21 v23 (ix2 l p) = xs ⟨1024 + p.val, by omega⟩ := by
  rw [← hxs]; pointwise [k0_pay5]

/-- The next columns: the value. -/
theorem pay6_at (p : Fin 1024) : k0_pay6 (F := Ideal) v0 v21 v23 (ix2 l p) = xs ⟨2048 + p.val, by omega⟩ := by
  rw [← hxs]; pointwise [k0_pay6]

/-- The columns that the decay is computed from. -/
theorem pay7_at (p : Fin 64) : k0_pay7 (F := Ideal) v0 v21 v23 (ix2 l p) = xs ⟨3072 + p.val, by omega⟩ := by
  rw [← hxs]; pointwise [k0_pay7]

/-- The columns that the rate is computed from. -/
theorem pay8_at (p : Fin 64) : k0_pay8 (F := Ideal) v0 v21 v23 (ix2 l p) = xs ⟨3136 + p.val, by omega⟩ := by
  rw [← hxs]; pointwise [k0_pay8]

/-- The columns that the output gate is computed from. -/
theorem pay9_at (p : Fin 128) : k0_pay9 (F := Ideal) v0 v21 v23 (ix2 l p) = xs ⟨3200 + p.val, by omega⟩ := by
  rw [← hxs]; pointwise [k0_pay9]

end

section
variable {v29 : FVec Ideal S256x1024 .f32} {v31 v32 : FVec Ideal S256x64 .f32} {v33 : FVec Ideal S256x128 .f32} {xs : Fin 3328 → EReal} {l : Fin 256}
  {w0 a0 kk ka : FVec Ideal S1x1024 .f32} {ww wa : FVec Ideal S64x1024 .f32} {wg : FVec Ideal S128x1024 .f32}
  {hs : FVec Ideal S1024x128 .bf16} {he : FVec Ideal S128x1024 .bf16}
  {fw0 fa0 fkk fka : Fin 1024 → EReal} {fww fwa : Fin 64 → Fin 1024 → EReal} {fwg : Fin 128 → Fin 1024 → EReal}

/-- The kernel's log decay. -/
theorem pay17_at (h31 : ∀ k : Fin 64, v31 (ix2 l k) = xs ⟨3072 + k.val, by omega⟩) (hw0 : ∀ p, w0 (ix2 0 p) = fw0 p)
    (hww : ∀ k p, ww (ix2 k p) = fww k p) (hr : ∀ k p, Real (fww k p)) (p : Fin 1024) :
    k0_pay17 (F := Ideal) (k0_pay10 (F := Ideal) v31 w0 ww) (ix2 l p) = 0 - Ideal.exp (decay xs fw0 fww p) := by
  pointwise [k0_pay17, k0_pay10]
  have e := halves (fun k : Fin 64 => Ideal.tanh (xs ⟨3072 + k.val, by omega⟩)) (fun k => fww k p) (fun k => real_tanh _) (fun k => hr k p)
  simp only [h31, hw0, hww]
  rw [if_neg (fun h => h rfl), e]
  rfl

/-- The kernel's learning rate. -/
theorem pay15_at (h32 : ∀ k : Fin 64, v32 (ix2 l k) = xs ⟨3136 + k.val, by omega⟩) (hx : ∀ c, Real (xs c)) (ha0 : ∀ p, a0 (ix2 0 p) = fa0 p)
    (hwa : ∀ k p, wa (ix2 k p) = fwa k p) (hr : ∀ k p, Real (fwa k p)) (p : Fin 1024) :
    k0_pay15 (F := Ideal) (k0_pay11 (F := Ideal) a0) wa (k0_pay12 (F := Ideal) v32) (k0_pay13 (F := Ideal) v32) (k0_pay14 (F := Ideal) wa) (ix2 l p) = rate xs fa0 fwa p := by
  pointwise [k0_pay15, k0_pay11, k0_pay12, k0_pay13, k0_pay14]
  have e := halves (fun k : Fin 64 => xs ⟨3136 + k.val, by omega⟩) (fun k => fwa k p) (fun k => hx _) (fun k => hr k p)
  simp only [h32, ha0, hwa]
  rw [e]
  rfl

/-- The kernel's normalized key. -/
theorem pay16_at (h29 : ∀ p : Fin 1024, v29 (ix2 l p) = xs ⟨1024 + p.val, by omega⟩) (hx : ∀ c, Real (xs c)) (hkk : ∀ p, kk (ix2 0 p) = fkk p)
    (hr : ∀ p, Real (fkk p)) (hhs : ∀ k h, hs (ix2 k h) = if k.val / 64 = h.val then 1 else 0)
    (hhe : ∀ h k, he (ix2 h k) = if k.val / 64 = h.val then 1 else 0) (p : Fin 1024) :
    k0_pay16 (F := Ideal) v29 kk hs he (ix2 l p) = unit xs fkk p := by
  pointwise [k0_pay16]
  have hh : ∀ h, he (ix2 h p) = hs (ix2 p h) := fun h => by rw [hhe, hhs]
  have e := heads (fun k => key xs fkk k * key xs fkk k) (fun k => (real_key hx hr k).mul (real_key hx hr k)) (fun k h => hs (ix2 k h)) hhs p
  simp only [h29, hkk, hh]
  simp only [key] at e
  unfold unit len
  simp only [key]
  rw [e]
  rfl

/-- The kernel's key. -/
theorem pay18_at {v91 : FVec Ideal S256x1024 .f32} (h29 : ∀ p : Fin 1024, v29 (ix2 l p) = xs ⟨1024 + p.val, by omega⟩)
    (p : Fin 1024) : k0_pay18 (F := Ideal) v29 v91 ka (ix2 l p) = xs ⟨1024 + p.val, by omega⟩ * (1 + (v91 (ix2 l p) - 1) * ka (ix2 0 p)) := by
  pointwise [k0_pay18]
  rw [h29]

/-- The kernel's removal direction. -/
theorem pay19_at (v117 : FVec Ideal S256x1024 .f32) (p : Fin 1024) : k0_pay19 (F := Ideal) v117 (ix2 l p) = 0 - v117 (ix2 l p) := by
  pointwise [k0_pay19]

/-- The kernel's replacement direction. -/
theorem pay20_at (v91 v117 : FVec Ideal S256x1024 .f32) (p : Fin 1024) : k0_pay20 (F := Ideal) v91 v117 (ix2 l p) = v117 (ix2 l p) * v91 (ix2 l p) := by
  pointwise [k0_pay20]

/-- The kernel's output gate. -/
theorem pay21_at (h33 : ∀ k : Fin 128, v33 (ix2 l k) = xs ⟨3200 + k.val, by omega⟩) (hx : ∀ c, Real (xs c))
    (hwg : ∀ k p, wg (ix2 k p) = fwg k p) (hr : ∀ k p, Real (fwg k p)) (p : Fin 1024) :
    k0_pay21 (F := Ideal) v33 wg (ix2 l p) = gate xs fwg p := by
  pointwise [k0_pay21]
  have e := halves (fun k : Fin 128 => Ideal.logistic (xs ⟨3200 + k.val, by omega⟩)) (fun k => fwg k p) (fun k => real_logistic (hx _)) (fun k => hr k p)
  simp only [h33, hwg]
  rw [e]
  rfl

/-- Whether a grid point starts a sequence, as the kernel tells. -/
theorem first_rows : ∀ i : Fin 128, Scalar.cmpi CmpIPredicate.eq
        (Scalar.select
          (Scalar.andi
            (Scalar.xori
              (Scalar.cmpi CmpIPredicate.slt
                (Scalar.remsi (BitVec.ofNat 32 i.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (Scalar.cmpi CmpIPredicate.ne
              (Scalar.remsi (BitVec.ofNat 32 i.val)
                (Scalar.select (Scalar.cmpi CmpIPredicate.eq 64#32 0#32) 1#32 64#32))
              0#32))
          (Scalar.addi
            (Scalar.remsi (BitVec.ofNat 32 i.val) (Scalar.select (Scalar.cmpi CmpIPredicate.eq 64#32 0#32) 1#32 64#32))
            (Scalar.select (Scalar.cmpi CmpIPredicate.eq 64#32 0#32) 1#32 64#32))
          (Scalar.remsi (BitVec.ofNat 32 i.val) (Scalar.select (Scalar.cmpi CmpIPredicate.eq 64#32 0#32) 1#32 64#32)))
        0#32 = if i.val % 64 = 0 then 1#1 else 0#1 := by decide +kernel

/-- The rows before, as the buffer's first rows hold them. -/
theorem pay2_at (i : grid0.Coords) (v : FVec Ideal S8x3328 .f32) (j : S8x3328.Idx) :
    k0_pay2 (F := Ideal) i v j = if (i 0).val % 64 = 0 then 0 else v j := by
  pointwise [k0_pay2]
  rw [first_rows (i 0)]
  split <;> rfl

/-- The rows, as the buffer holds them. -/
theorem pay1_at (v : FVec Ideal S256x3328 .f32) (j : S256x3328.Idx) : k0_pay1 (F := Ideal) v j = v j := by
  pointwise [k0_pay1]

end

end Cert.Proof.Prep

end
end
-- ==== Proof.PrepBlocks.lean ====
module

public import proofs.«01_k».proof.Proof.PrepPayloads
public import proofs.«01_k».proof.Proof.Gen.Kernel6Ideal.Value
public import Idealize.ShloMosaic.Lib.WritesUnit
public import Idealize.ShloMosaic.Lib.Pipeline.ReadBack

@[expose] public section

set_option maxRecDepth 16384

noncomputable section

namespace Cert.Proof.Prep

open Cert.Kernel6Ideal Cert.Kernel6Ideal.Gen Idealize.ShloMosaic Idealize.ShloMosaic.TcCoe Idealize.SL.Sem

variable (m : (ℓ : Loc nD τ sig) → Buf (Elt Ideal) ℓ)

/-! ## What the preparation's blocks hold -/

/-- There are 128 grid points. -/
theorem N_le (t : Fin cfg0.N) : t.val < 128 := lt_of_lt_of_eq t.isLt N_0

/-- The blocks a grid point reads and writes: its 256 rows of the projection, the eight rows before them, everything
    else whole, and its 256 rows of each result. -/
theorem idx : ∀ t : Fin cfg0.N, win0_0.index t = ![t.val, 0] ∧ win0_1.index t = ![t.val * 32 - 1, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, _)

/-- The head of a column. -/
theorem head : ∀ k : Fin 1024, IntOp.divsi .host (BitVec.ofNat 32 k.val) 64#32 = BitVec.ofNat 32 (k.val / 64) := by decide +kernel

/-- Two small numbers compared as words. -/
theorem same : ∀ (a : Fin 16) (h : Fin 128), IntOp.cmpi .eq (BitVec.ofNat 32 a.val) (BitVec.ofNat 32 h.val) = if a.val = h.val then 1#1 else 0#1 := by
  decide +kernel

/-- The word one as a value. -/
theorem word_one : FloatOps.uitofp (F := Ideal) FTy.f32 1#1 = (1 : EReal) := by
  show (((1#1 : BitVec 1).toNat : ℝ) : EReal) = 1
  simp

/-- The word zero as a value. -/
theorem word_zero : FloatOps.uitofp (F := Ideal) FTy.f32 0#1 = (0 : EReal) := by
  show (((0#1 : BitVec 1).toNat : ℝ) : EReal) = 0
  simp

/-- The mix as a row. -/
theorem entry_v12 (c : Dev nD) (ch : Fin 3328) : V m c main_v12 (ix2 0 ch) = m ((c : Thread nD τ).loc main_arg1) (ix1 ch) := by
  simp only [V, hostOps0]
  after_results
  pointwise

/-- The decay's bias as a row. -/
theorem entry_v13 (c : Dev nD) (p : Fin 1024) : V m c main_v13 (ix2 0 p) = m ((c : Thread nD τ).loc main_arg2) (ix1 p) := by
  simp only [V, hostOps0]
  after_results
  pointwise

/-- The rate's bias as a row. -/
theorem entry_v14 (c : Dev nD) (p : Fin 1024) : V m c main_v14 (ix2 0 p) = m ((c : Thread nD τ).loc main_arg4) (ix1 p) := by
  simp only [V, hostOps0]
  after_results
  pointwise

/-- The key's normalized weight as a row. -/
theorem entry_v15 (c : Dev nD) (p : Fin 1024) : V m c main_v15 (ix2 0 p) = m ((c : Thread nD τ).loc main_arg7) (ix1 p) := by
  simp only [V, hostOps0]
  after_results
  pointwise

/-- The key's weight as a row. -/
theorem entry_v16 (c : Dev nD) (p : Fin 1024) : V m c main_v16 (ix2 0 p) = m ((c : Thread nD τ).loc main_arg8) (ix1 p) := by
  simp only [V, hostOps0]
  after_results
  pointwise

/-- The head table. -/
theorem entry_v10 (c : Dev nD) (k : Fin 1024) (h : Fin 128) : V m c main_v10 (ix2 k h) = if k.val / 64 = h.val then (1 : EReal) else 0 := by
  simp only [V, hostOps0]
  after_results
  pointwise
  rw [head, same ⟨k.val / 64, by omega⟩ h]
  show FloatOps.uitofp (F := Ideal) FTy.f32 (if k.val / 64 = h.val then 1#1 else 0#1) = _
  split
  · exact word_one
  · exact word_zero

/-- The head table, heads first. -/
theorem entry_v11 (c : Dev nD) (h : Fin 128) (k : Fin 1024) : V m c main_v11 (ix2 h k) = if k.val / 64 = h.val then (1 : EReal) else 0 := by
  simp only [V, hostOps0]
  after_results
  pointwise
  rw [head, same ⟨k.val / 64, by omega⟩ h]
  show FloatOps.uitofp (F := Ideal) FTy.f32 (if k.val / 64 = h.val then 1#1 else 0#1) = _
  split
  · exact word_one
  · exact word_zero

/-- A grid point's rows of the projection. -/
theorem blk0_at (c : Dev nD) (t : Fin cfg0.N) (l : Fin 256) (ch : Fin 3328) :
    iblk m c 0 t (ix2 l ch) = m ((c : Thread nD τ).loc main_arg0) (ix2 ⟨256 * t.val + l.val, by have := N_le t; omega⟩ ch) := by
  blk_ext [iblk, V, idx t]

/-- The eight rows before a grid point's. -/
theorem blk1_at (c : Dev nD) (t : Fin cfg0.N) (l : Fin 8) (ch : Fin 3328) :
    iblk m c 1 t (ix2 l ch) = m ((c : Thread nD τ).loc main_arg0) (ix2 ⟨(t.val * 32 - 1) * 8 + l.val, by have := N_le t; omega⟩ ch) := by
  blk_ext [iblk, V, idx t]

/-- The mix. -/
theorem blk2_at (c : Dev nD) (t : Fin cfg0.N) (ch : Fin 3328) : iblk m c 2 t (ix2 0 ch) = m ((c : Thread nD τ).loc main_arg1) (ix1 ch) := by
  rw [← entry_v12 m c]; blk_ext [iblk, idx t]

/-- The decay's bias. -/
theorem blk3_at (c : Dev nD) (t : Fin cfg0.N) (p : Fin 1024) : iblk m c 3 t (ix2 0 p) = m ((c : Thread nD τ).loc main_arg2) (ix1 p) := by
  rw [← entry_v13 m c]; blk_ext [iblk, idx t]

/-- The decay's weight. -/
theorem blk4_at (c : Dev nD) (t : Fin cfg0.N) (k : Fin 64) (p : Fin 1024) : iblk m c 4 t (ix2 k p) = m ((c : Thread nD τ).loc main_arg3) (ix2 k p) := by
  blk_ext [iblk, V, idx t]

/-- The rate's bias. -/
theorem blk5_at (c : Dev nD) (t : Fin cfg0.N) (p : Fin 1024) : iblk m c 5 t (ix2 0 p) = m ((c : Thread nD τ).loc main_arg4) (ix1 p) := by
  rw [← entry_v14 m c]; blk_ext [iblk, idx t]

/-- The rate's weight. -/
theorem blk6_at (c : Dev nD) (t : Fin cfg0.N) (k : Fin 64) (p : Fin 1024) : iblk m c 6 t (ix2 k p) = m ((c : Thread nD τ).loc main_arg5) (ix2 k p) := by
  blk_ext [iblk, V, idx t]

/-- The gate's weight. -/
theorem blk7_at (c : Dev nD) (t : Fin cfg0.N) (k : Fin 128) (p : Fin 1024) : iblk m c 7 t (ix2 k p) = m ((c : Thread nD τ).loc main_arg6) (ix2 k p) := by
  blk_ext [iblk, V, idx t]

/-- The normalized key's weight. -/
theorem blk8_at (c : Dev nD) (t : Fin cfg0.N) (p : Fin 1024) : iblk m c 8 t (ix2 0 p) = m ((c : Thread nD τ).loc main_arg7) (ix1 p) := by
  rw [← entry_v15 m c]; blk_ext [iblk, idx t]

/-- The key's weight. -/
theorem blk9_at (c : Dev nD) (t : Fin cfg0.N) (p : Fin 1024) : iblk m c 9 t (ix2 0 p) = m ((c : Thread nD τ).loc main_arg8) (ix1 p) := by
  rw [← entry_v16 m c]; blk_ext [iblk, idx t]

/-- The head table. -/
theorem blk10_at (c : Dev nD) (t : Fin cfg0.N) (k : Fin 1024) (h : Fin 128) : iblk m c 10 t (ix2 k h) = if k.val / 64 = h.val then (1 : EReal) else 0 := by
  rw [← entry_v10 m c]; blk_ext [iblk, idx t]

/-- The head table, heads first. -/
theorem blk11_at (c : Dev nD) (t : Fin cfg0.N) (h : Fin 128) (k : Fin 1024) : iblk m c 11 t (ix2 h k) = if k.val / 64 = h.val then (1 : EReal) else 0 := by
  rw [← entry_v11 m c]; blk_ext [iblk, idx t]

end Cert.Proof.Prep

end
end
-- ==== Proof.PrepOut.lean ====
module

public import proofs.«01_k».proof.Proof.PrepBlocks

@[expose] public section

set_option maxRecDepth 16384

noncomputable section

namespace Cert.Proof.Prep

open Cert.Kernel6Ideal Cert.Kernel6Ideal.Gen Idealize.ShloMosaic Idealize.ShloMosaic.TcCoe Idealize.SL.Sem

variable (m : (ℓ : Loc nD τ sig) → Buf (Elt Ideal) ℓ)

/-- The projection as a core finds it. -/
def proj (c : Dev nD) (r : Fin 32768) (ch : Fin 3328) : EReal := m ((c : Thread nD τ).loc main_arg0) (ix2 r ch)
/-- The mix of a row with the row before it. -/
def mix (c : Dev nD) (ch : Fin 3328) : EReal := m ((c : Thread nD τ).loc main_arg1) (ix1 ch)
/-- The decay's bias. -/
def wb (c : Dev nD) (p : Fin 1024) : EReal := m ((c : Thread nD τ).loc main_arg2) (ix1 p)
/-- The decay's weight. -/
def ww (c : Dev nD) (k : Fin 64) (p : Fin 1024) : EReal := m ((c : Thread nD τ).loc main_arg3) (ix2 k p)
/-- The rate's bias. -/
def ab (c : Dev nD) (p : Fin 1024) : EReal := m ((c : Thread nD τ).loc main_arg4) (ix1 p)
/-- The rate's weight. -/
def aw (c : Dev nD) (k : Fin 64) (p : Fin 1024) : EReal := m ((c : Thread nD τ).loc main_arg5) (ix2 k p)
/-- The output gate's weight. -/
def gw (c : Dev nD) (k : Fin 128) (p : Fin 1024) : EReal := m ((c : Thread nD τ).loc main_arg6) (ix2 k p)
/-- The key's scale before it is normalized. -/
def kk (c : Dev nD) (p : Fin 1024) : EReal := m ((c : Thread nD τ).loc main_arg7) (ix1 p)
/-- How far the rate scales the key. -/
def ka (c : Dev nD) (p : Fin 1024) : EReal := m ((c : Thread nD τ).loc main_arg8) (ix1 p)

/-- The row of the whole arrays that a grid point's row is. -/
def row (t : Fin cfg0.N) (l : Fin 256) : Fin 32768 := ⟨256 * t.val + l.val, by have := N_le t; omega⟩

/-- A grid point's coordinate is its number. -/
theorem coord : ∀ t : Fin cfg0.N, (grid0.coords t 0).val = t.val :=
  (by decide +kernel : ∀ t : Fin grid0.N, (grid0.coords t 0).val = t.val)

/-- A grid point's rows, each mixed with the row before it. -/
theorem xs_at (c : Dev nD) (t : Fin cfg0.N) (l : Fin 256) (ch : Fin 3328) :
    k0_pay3 (F := Ideal) (iblk m c 0 t)
      ((View.whole cc0_scratch0).readCov
        [⟨Rect.unit ![0, 0] ![8, 3328] inb_S264x3328_S8x3328_0_0, k0_pay2 (grid0.coords t) (iblk m c 1 t)⟩,
          ⟨Rect.unit ![8, 0] ![256, 3328] inb_S264x3328_S256x3328_8_0, k0_pay1 (iblk m c 0 t)⟩]
        (Rect.unit ![7, 0] ![256, 3328] inb_S264x3328_S256x3328_7_0).toLoadRect)
      (iblk m c 2 t) (ix2 l ch) = mixed (proj m c) (mix m c) (row t l) ch := by
  have hl := l.isLt
  have ht := N_le t
  have hr : (row t l).val = 256 * t.val + l.val := rfl
  refine (pay3_at l ch).trans ?_
  rw [blk0_at, blk2_at]
  unfold mixed
  rw [View.readCov, View.readAt_apply]
  by_cases h0 : l.val = 0
  · rw [View.read_writes_cons_rows_of_mem (o := 0) _ _ inb_S264x3328_S8x3328_0_0 _ _ _ (ix2 (⟨7, by omega⟩ : Fin 8) ch) rfl (show 7 + 1 * l.val = 0 + 7 by omega) (show 0 + 1 * ch.val = ch.val by omega)]
    rw [pay2_at, coord, blk1_at]
    by_cases h1 : t.val % 64 = 0
    · rw [if_pos h1, if_pos (show (row t l).val % 16384 = 0 by rw [hr]; omega)]
      rfl
    · rw [if_neg h1, if_neg (show ¬ (row t l).val % 16384 = 0 by rw [hr]; omega)]
      have e : (⟨(t.val * 32 - 1) * 8 + 7, by omega⟩ : Fin 32768) = ⟨(row t l).val - 1, by omega⟩ := Fin.ext (by
        show (t.val * 32 - 1) * 8 + 7 = (row t l).val - 1
        omega)
      exact congrArg (fun r : Fin 32768 => proj m c (row t l) ch + (proj m c r ch - proj m c (row t l) ch) * mix m c ch) e
  · rw [View.read_writes_cons_rows_of_not_mem (o := 0) (W := 8) _ _ _ _ _ _ rfl rfl (Or.inr (show 0 + 8 ≤ 7 + 1 * l.val by omega))]
    rw [View.read_writes_cons_rows_of_mem (o := 8) _ _ inb_S264x3328_S256x3328_8_0 _ _ _ (ix2 (⟨l.val - 1, by omega⟩ : Fin 256) ch) rfl (show 7 + 1 * l.val = 8 + (l.val - 1) by omega) (show 0 + 1 * ch.val = ch.val by omega)]
    rw [pay1_at, blk0_at, if_neg (show ¬ (row t l).val % 16384 = 0 by rw [hr]; omega)]
    have e : (⟨256 * t.val + (l.val - 1), by omega⟩ : Fin 32768) = ⟨(row t l).val - 1, by omega⟩ := Fin.ext (by
      show 256 * t.val + (l.val - 1) = (row t l).val - 1
      omega)
    exact congrArg (fun r : Fin 32768 => proj m c (row t l) ch + (proj m c r ch - proj m c (row t l) ch) * mix m c ch) e

/-- The mixed rows of a grid point. -/
theorem out12 (c : Dev nD) (t : Fin cfg0.N) (l : Fin 256) (p : Fin 1024) :
    (outsAt0 m c t).1 (ix2 l p) = mixed (proj m c) (mix m c) (row t l) ⟨p.val, by omega⟩ := by
  simp only [outsAt0]
  unfold out0_A_12
  frame_out
  exact pay4_at (xs_at m c t l) p

/-- The values of a grid point. -/
theorem out15 (c : Dev nD) (t : Fin cfg0.N) (l : Fin 256) (p : Fin 1024) :
    (outsAt0 m c t).2.2.2.1 (ix2 l p) = mixed (proj m c) (mix m c) (row t l) ⟨2048 + p.val, by omega⟩ := by
  simp only [outsAt0]
  unfold out0_A_15
  frame_out
  exact pay6_at (xs_at m c t l) p

/-- The log decays of a grid point. -/
theorem out13 (c : Dev nD) (hw : ∀ k p, Real (ww m c k p)) (t : Fin cfg0.N) (l : Fin 256) (p : Fin 1024) :
    (outsAt0 m c t).2.1 (ix2 l p) = 0 - Ideal.exp (decay (mixed (proj m c) (mix m c) (row t l)) (wb m c) (ww m c) p) := by
  simp only [outsAt0]
  unfold out0_A_13
  frame_out
  exact pay17_at (pay7_at (xs_at m c t l)) (blk3_at m c t) (blk4_at m c t) hw p

section
variable (c : Dev nD) (hx : ∀ r ch, Real (mixed (proj m c) (mix m c) r ch))
include hx

/-- The output gates of a grid point. -/
theorem out18 (hg : ∀ k p, Real (gw m c k p)) (t : Fin cfg0.N) (l : Fin 256) (p : Fin 1024) :
    (outsAt0 m c t).2.2.2.2.2.2 (ix2 l p) = gate (mixed (proj m c) (mix m c) (row t l)) (gw m c) p := by
  simp only [outsAt0]
  unfold out0_A_18
  frame_out
  exact pay21_at (pay9_at (xs_at m c t l)) (hx (row t l)) (blk7_at m c t) hg p

/-- The keys of a grid point. -/
theorem out14 (ha : ∀ k p, Real (aw m c k p)) (t : Fin cfg0.N) (l : Fin 256) (p : Fin 1024) :
    (outsAt0 m c t).2.2.1 (ix2 l p) = mixed (proj m c) (mix m c) (row t l) ⟨1024 + p.val, by omega⟩
      * (1 + (rate (mixed (proj m c) (mix m c) (row t l)) (ab m c) (aw m c) p - 1) * ka m c p) := by
  simp only [outsAt0]
  unfold out0_A_14
  frame_out
  refine (pay18_at (pay5_at (xs_at m c t l)) p).trans ?_
  rw [pay15_at (pay8_at (xs_at m c t l)) (hx (row t l)) (blk5_at m c t) (blk6_at m c t) ha p, blk9_at]
  rfl

/-- The removal directions of a grid point. -/
theorem out16 (hk : ∀ p, Real (kk m c p)) (t : Fin cfg0.N) (l : Fin 256) (p : Fin 1024) :
    (outsAt0 m c t).2.2.2.2.1 (ix2 l p) = 0 - unit (mixed (proj m c) (mix m c) (row t l)) (kk m c) p := by
  simp only [outsAt0]
  unfold out0_A_16
  frame_out
  refine (pay19_at _ p).trans ?_
  rw [pay16_at (fkk := kk m c) (pay5_at (xs_at m c t l)) (hx (row t l)) (blk8_at m c t) hk (blk10_at m c t) (blk11_at m c t) p]

/-- The replacement directions of a grid point. -/
theorem out17 (ha : ∀ k p, Real (aw m c k p)) (hk : ∀ p, Real (kk m c p)) (t : Fin cfg0.N) (l : Fin 256) (p : Fin 1024) :
    (outsAt0 m c t).2.2.2.2.2.1 (ix2 l p) = unit (mixed (proj m c) (mix m c) (row t l)) (kk m c) p
      * rate (mixed (proj m c) (mix m c) (row t l)) (ab m c) (aw m c) p := by
  simp only [outsAt0]
  unfold out0_A_17
  frame_out
  refine (pay20_at _ _ p).trans ?_
  rw [pay16_at (fkk := kk m c) (pay5_at (xs_at m c t l)) (hx (row t l)) (blk8_at m c t) hk (blk10_at m c t) (blk11_at m c t) p,
    pay15_at (fa0 := ab m c) (fwa := aw m c) (pay8_at (xs_at m c t l)) (hx (row t l)) (blk5_at m c t) (blk6_at m c t) ha p]

end

end Cert.Proof.Prep

end
end
-- ==== Proof.PrepRef.lean ====
module

public import proofs.«01_k».proof.Proof.PrepSpec
public import proofs.«01_k».proof.Proof.Gen.Reference6Ideal.Read
public import Idealize.ShloMosaic.Lib.Pipeline.ValueKit

@[expose] public section

set_option maxRecDepth 16384

noncomputable section

namespace Cert.Proof.Prep.Ref

open Cert.Reference6Ideal Idealize.ShloMosaic
open Cert.Reference6Ideal.Read

variable (x0 : (⟨S32768x3328, .f32⟩ : BufTy).Contents (Elt Ideal)) (x1 : (⟨S3328, .f32⟩ : BufTy).Contents (Elt Ideal))
  (x2 : (⟨S1024, .f32⟩ : BufTy).Contents (Elt Ideal)) (x3 : (⟨S64x1024, .f32⟩ : BufTy).Contents (Elt Ideal))
  (x4 : (⟨S1024, .f32⟩ : BufTy).Contents (Elt Ideal)) (x5 : (⟨S64x1024, .f32⟩ : BufTy).Contents (Elt Ideal))
  (x6 : (⟨S128x1024, .f32⟩ : BufTy).Contents (Elt Ideal)) (x7 x8 : (⟨S1024, .f32⟩ : BufTy).Contents (Elt Ideal))

/-- The whole number zero as a value. -/
theorem int_zero : FloatOps.sitofp (F := Ideal) FTy.f32 0#32 = (0 : EReal) := by
  show ((((0#32 : BitVec 32).toInt : ℝ)) : EReal) = 0
  simp

/-- The reference's mixed rows. -/
theorem xs_at (b : Fin 2) (s : Fin 16384) (c : Fin 3328) :
    val_main_v7 (F := Ideal) x0 x1 (ix3 b s c) = mixed (fun r c => x0 (ix2 r c)) (fun c => x1 (ix1 c)) ⟨b.val * 16384 + s.val, by omega⟩ c := by
  pointwise [val_main_v7, val_main_v6, val_main_v5, val_main_v4, val_main_v3, val_main_v2, val_main_v1, val_main_v0, val_main_call0_v0, val_main_c]
  unfold mixed
  have hs := s.isLt
  by_cases h : s.val = 0
  · have e : (b.val * 16384 + s.val) % 16384 = 0 := by omega
    rw [dif_neg (by omega), if_pos e, int_zero]
  · have e : ¬ (b.val * 16384 + s.val) % 16384 = 0 := by omega
    have e2 : (⟨b.val * 16384 + (s.val - 1), by omega⟩ : Fin 32768) = ⟨b.val * 16384 + s.val - 1, by omega⟩ := Fin.ext (by show b.val * 16384 + (s.val - 1) = b.val * 16384 + s.val - 1; omega)
    rw [dif_pos (by omega), if_neg e, e2]

variable (xs : ℕ → Fin 3328 → EReal) (hxs : ∀ (b : Fin 2) (s : Fin 16384) (c : Fin 3328), val_main_v7 (F := Ideal) x0 x1 (ix3 b s c) = xs (b.val * 16384 + s.val) c)

/-- A row's number from its sequence and its place there. -/
theorem row_of (r : Fin 32768) : r.val / 16384 * 16384 + r.val % 16384 = r.val := by omega

include hxs in
/-- The reference's mixed rows, by the row's number. -/
theorem hrow (r : Fin 32768) (c : Fin 3328) :
    val_main_v7 (F := Ideal) x0 x1 (ix3 (⟨r.val / 16384, by omega⟩ : Fin 2) (⟨r.val % 16384, by omega⟩ : Fin 16384) c) = xs r c := by
  rw [hxs]
  simp only [row_of r]

include hxs in
/-- The reference's first result. -/
theorem r_at (r : Fin 32768) (p : Fin 1024) : val_main_v66 (F := Ideal) x0 x1 (ix2 r p) = xs r ⟨p.val, by omega⟩ := by
  pointwise [val_main_v66, val_main_v8]
  exact hrow x0 x1 xs hxs r _

include hxs in
/-- The reference's log decay. -/
theorem lw_at (r : Fin 32768) (p : Fin 1024) : val_main_v67 (F := Ideal) x0 x1 x2 x3 (ix2 r p)
    = 0 - Ideal.exp (decay (xs r) (fun p => x2 (ix1 p)) (fun k p => x3 (ix2 k p)) p) := by
  pointwise [val_main_v67, val_main_v63, val_main_v62, val_main_v23, val_main_v22, val_main_v21, val_main_v20, val_main_v19, val_main_v18, val_main_v17, val_main_v16, val_main_v15, val_main_v14, val_main_v11, val_main_cst,
    val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11]
  rw [zero_sub]
  unfold decay splus half
  simp only [hrow x0 x1 xs hxs, zero_sub]
  rw [if_neg (fun h => h rfl)]
  rfl

include hxs in
/-- The reference's learning rate. -/
theorem rate_at (b : Fin 2) (s : Fin 16384) (p : Fin 1024) : val_main_v33 (F := Ideal) x0 x1 x4 x5 (ix3 b s p)
    = rate (xs (b.val * 16384 + s.val)) (fun p => x4 (ix1 p)) (fun k p => x5 (ix2 k p)) p := by
  pointwise [val_main_v33, val_main_v32, val_main_v31, val_main_v30, val_main_v29, val_main_v28, val_main_v27, val_main_v26, val_main_v25, val_main_v24, val_main_v12, val_main_cst_0, val_main_cst_1]
  simp only [hxs]
  rfl

include hxs in
/-- The reference's normalized key. -/
theorem unit_at (b : Fin 2) (s : Fin 16384) (p : Fin 1024) : val_main_v53 (F := Ideal) x0 x1 x7 (ix3 b s p)
    = unit (xs (b.val * 16384 + s.val)) (fun p => x7 (ix1 p)) p := by
  pointwise [val_main_v53, val_main_v52, val_main_v51, val_main_v50, val_main_v49, val_main_v48, val_main_v47, val_main_v46, val_main_v45, val_main_v44, val_main_v43, val_main_v42, val_main_v41, val_main_v9, val_main_cst_4, val_main_cst_5]
  simp only [hxs]
  rfl

include hxs in
/-- The reference's key. -/
theorem k_at (r : Fin 32768) (p : Fin 1024) : val_main_v68 (F := Ideal) x0 x1 x4 x5 x8 (ix2 r p)
    = xs r ⟨1024 + p.val, by omega⟩ * (1 + (rate (xs r) (fun p => x4 (ix1 p)) (fun k p => x5 (ix2 k p)) p - 1) * x8 (ix1 p)) := by
  pointwise [val_main_v68, val_main_v61, val_main_v60, val_main_v59, val_main_v58, val_main_v57, val_main_v56, val_main_v55, val_main_v54, val_main_v9, val_main_cst_6, val_main_cst_7]
  rw [hrow x0 x1 xs hxs, rate_at x0 x1 x4 x5 xs hxs]
  simp only [row_of r]

include hxs in
/-- The reference's value. -/
theorem v_at (r : Fin 32768) (p : Fin 1024) : val_main_v69 (F := Ideal) x0 x1 (ix2 r p) = xs r ⟨2048 + p.val, by omega⟩ := by
  pointwise [val_main_v69, val_main_v10]
  exact hrow x0 x1 xs hxs r _

include hxs in
/-- The reference's removal direction. -/
theorem a_at (r : Fin 32768) (p : Fin 1024) : val_main_v70 (F := Ideal) x0 x1 x7 (ix2 r p) = 0 - unit (xs r) (fun p => x7 (ix1 p)) p := by
  pointwise [val_main_v70, val_main_v64]
  rw [unit_at x0 x1 x7 xs hxs, zero_sub]
  simp only [row_of r]

include hxs in
/-- The reference's replacement direction. -/
theorem b_at (r : Fin 32768) (p : Fin 1024) : val_main_v71 (F := Ideal) x0 x1 x4 x5 x7 (ix2 r p)
    = unit (xs r) (fun p => x7 (ix1 p)) p * rate (xs r) (fun p => x4 (ix1 p)) (fun k p => x5 (ix2 k p)) p := by
  pointwise [val_main_v71, val_main_v65]
  rw [unit_at x0 x1 x7 xs hxs, rate_at x0 x1 x4 x5 xs hxs]
  simp only [row_of r]

include hxs in
/-- The reference's output gate. -/
theorem g_at (r : Fin 32768) (p : Fin 1024) : val_main_v72 (F := Ideal) x0 x1 x6 (ix2 r p) = gate (xs r) (fun k p => x6 (ix2 k p)) p := by
  pointwise [val_main_v72, val_main_v40, val_main_v39, val_main_v38, val_main_v37, val_main_v36, val_main_v35, val_main_v34, val_main_v13, val_main_cst_2, val_main_cst_3]
  simp only [hrow x0 x1 xs hxs]
  rfl

end Cert.Proof.Prep.Ref

end
end
-- ==== Proof.Prep.lean ====
module

public import proofs.«01_k».proof.Defs
public import proofs.«01_k».proof.Proof.PrepOut
public import proofs.«01_k».proof.Proof.PrepRef
public import Idealize.ShloMosaic.Lib.ReduceAll

@[expose] public section

set_option maxRecDepth 16384

noncomputable section

namespace Cert.Proof.Prep

open Cert.Kernel6Ideal Cert.Kernel6Ideal.Gen Idealize.ShloMosaic Idealize.ShloMosaic.TcCoe Idealize.SL.Sem

variable (m : (ℓ : Loc nD τ sig) → Buf (Elt Ideal) ℓ)

/-- A value whose magnitude is below some bound is finite. -/
theorem real_of_lt {x b : EReal} (h : BitVec.ofBool (decide (max x (-x) < b)) = 1#1) : Real x := by
  have hb : max x (-x) < b := by
    by_contra hn
    rw [decide_eq_false hn] at h
    exact absurd h (by decide)
  have ht := lt_top_of_lt hb
  refine ⟨fun e => ?_, fun e => ?_⟩
  · rw [e] at ht
    exact absurd (le_max_left _ _) (not_le.mpr ht)
  · rw [e] at ht
    exact absurd (le_max_right ⊥ (-⊥ : EReal)) (not_le.mpr (by rwa [EReal.neg_bot] at ht ⊢))

/-- Both words of a conjunction that is one are one. -/
theorem both {a b : BitVec 1} (h : a &&& b = 1#1) : a = 1#1 ∧ b = 1#1 := by
  revert a b
  decide

/-- The shape relations of the precondition's operations. -/
theorem preFacts : Cert.Pre_finite6.Facts where
  bcast_S_S32768x3328 := by decide
  reducesTo_S32768x3328_S_d0_1 := by decide
  h_S_ := by decide
  bcast_S_S3328 := by decide
  reducesTo_S3328_S_d0 := by decide
  bcast_S_S1024 := by decide
  reducesTo_S1024_S_d0 := by decide
  bcast_S_S64x1024 := by decide
  reducesTo_S64x1024_S_d0_1 := by decide
  bcast_S_S128x1024 := by decide
  reducesTo_S128x1024_S_d0_1 := by decide

/-- What the precondition says: the projection, the mix and the weights named there are finite. -/
theorem finite (h : Cert.Pre_Kernel6Ideal_finite6 (hPre_finite6 := preFacts) m) (c : Dev nD) :
    (∀ r ch, Real (proj m c r ch)) ∧ (∀ ch, Real (mix m c ch)) ∧ (∀ p, Real (kk m c p)) ∧ (∀ k p, Real (ww m c k p))
      ∧ (∀ k p, Real (aw m c k p)) ∧ (∀ k p, Real (gw m c k p)) := by
  have h := congrFun (h c) (fun a => a.elim0)
  dsimp only [Cert.Pre_finite6.fn, Cert.Pre_finite6.fn_part1] at h
  obtain ⟨h, h6⟩ := both h
  obtain ⟨h, h5⟩ := both h
  obtain ⟨h, h3⟩ := both h
  obtain ⟨h, h7⟩ := both h
  obtain ⟨h0, h1⟩ := both h
  haveI : Subsingleton Cert.Pre_finite6.S_.Idx := ⟨fun a b => funext fun i => i.elim0⟩
  exact ⟨fun r ch => real_of_lt (Host.reduce_andi_all _ _ _ _ _ h0 (ix2 r ch)), fun ch => real_of_lt (Host.reduce_andi_all _ _ _ _ _ h1 (ix1 ch)),
    fun p => real_of_lt (Host.reduce_andi_all _ _ _ _ _ h7 (ix1 p)), fun k p => real_of_lt (Host.reduce_andi_all _ _ _ _ _ h3 (ix2 k p)),
    fun k p => real_of_lt (Host.reduce_andi_all _ _ _ _ _ h5 (ix2 k p)), fun k p => real_of_lt (Host.reduce_andi_all _ _ _ _ _ h6 (ix2 k p))⟩

/-- The mixed rows by number. -/
def rows (c : Dev nD) (r : ℕ) (ch : Fin 3328) : EReal := if h : r < 32768 then mixed (proj m c) (mix m c) ⟨r, h⟩ ch else 0

/-- A row of the arrays by its number. -/
theorem rows_row (c : Dev nD) (r : Fin 32768) : rows m c r.val = mixed (proj m c) (mix m c) r :=
  funext fun _ => dif_pos r.isLt

/-- The reference's mixed rows are these. -/
theorem rows_ref (c : Dev nD) (b : Fin 2) (s : Fin 16384) (ch : Fin 3328) :
    Cert.Reference6Ideal.Read.val_main_v7 (F := Ideal) (m ((c : Thread nD τ).loc main_arg0)) (m ((c : Thread nD τ).loc main_arg1)) (ix3 b s ch)
      = rows m c (b.val * 16384 + s.val) ch := by
  refine (Ref.xs_at _ _ b s ch).trans ?_
  unfold rows
  rw [dif_pos (show b.val * 16384 + s.val < 32768 by omega)]
  rfl

open Cert.Reference6Ideal.Read

/-- An index of two axes is its two coordinates. -/
theorem pair {a b : ℕ} (y : (⟨2, ![a, b]⟩ : Shape).Idx) : y = ix2 (y 0) (y 1) := by
  funext i
  match i with
  | ⟨0, _⟩ => rfl
  | ⟨1, _⟩ => rfl

/-- The first result, the mixed receptance, is the reference's. -/
theorem final_r (c : Dev nD) : (dats m 0 c).arrAt 12 (cfgs 0).N
    = val_main_v66 (F := Ideal) (m ((c : Thread nD τ).loc main_arg0)) (m ((c : Thread nD τ).loc main_arg1)) := by
  refine (dats m 0 c).arrAt_eq_of_covers 12 _ (by decide +kernel) fun t _ y => ?_
  blk_simp
  rw [after0_12]
  have e : (win0_12.blk t).view.emb y = ix2 (row t (y 0)) (y 1) := by
    blk_ext [idx t]
    show t.val * 256 + (y 0).val = 256 * t.val + (y 0).val
    omega
  have h := Ref.r_at (m ((c : Thread nD τ).loc main_arg0)) (m ((c : Thread nD τ).loc main_arg1)) (rows m c) (rows_ref m c) (row t (y 0)) (y 1)
  rw [rows_row] at h
  rw [e]
  exact (congrArg (outsAt0 m c t).1 (pair y)).trans ((out12 m c t (y 0) (y 1)).trans h.symm)

/-- The second result, the log decay, is the reference's. -/
theorem final_lw (c : Dev nD) (hw : ∀ k p, Real (ww m c k p)): (dats m 0 c).arrAt 13 (cfgs 0).N
    = val_main_v67 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t _ y => ?_
  blk_simp
  rw [after0_13]
  have e : (win0_13.blk t).view.emb y = ix2 (row t (y 0)) (y 1) := by
    blk_ext [idx t]
    show t.val * 256 + (y 0).val = 256 * t.val + (y 0).val
    omega
  have h := Ref.lw_at (m ((c : Thread nD τ).loc main_arg0)) (m ((c : Thread nD τ).loc main_arg1)) (m ((c : Thread nD τ).loc main_arg2)) (m ((c : Thread nD τ).loc main_arg3)) (rows m c) (rows_ref m c) (row t (y 0)) (y 1)
  rw [rows_row] at h
  rw [e]
  exact (congrArg (outsAt0 m c t).2.1 (pair y)).trans ((out13 m c hw t (y 0) (y 1)).trans h.symm)

/-- The third result, the key, is the reference's. -/
theorem final_k (c : Dev nD) (hx : ∀ r ch, Real (mixed (proj m c) (mix m c) r ch)) (ha : ∀ k p, Real (aw m c k p)): (dats m 0 c).arrAt 14 (cfgs 0).N
    = val_main_v68 (F := Ideal) (m ((c : Thread nD τ).loc main_arg0)) (m ((c : Thread nD τ).loc main_arg1)) (m ((c : Thread nD τ).loc main_arg4)) (m ((c : Thread nD τ).loc main_arg5)) (m ((c : Thread nD τ).loc main_arg8)) := by
  refine (dats m 0 c).arrAt_eq_of_covers 14 _ (by decide +kernel) fun t _ y => ?_
  blk_simp
  rw [after0_14]
  have e : (win0_14.blk t).view.emb y = ix2 (row t (y 0)) (y 1) := by
    blk_ext [idx t]
    show t.val * 256 + (y 0).val = 256 * t.val + (y 0).val
    omega
  have h := Ref.k_at (m ((c : Thread nD τ).loc main_arg0)) (m ((c : Thread nD τ).loc main_arg1)) (m ((c : Thread nD τ).loc main_arg4)) (m ((c : Thread nD τ).loc main_arg5)) (m ((c : Thread nD τ).loc main_arg8)) (rows m c) (rows_ref m c) (row t (y 0)) (y 1)
  rw [rows_row] at h
  rw [e]
  exact (congrArg (outsAt0 m c t).2.2.1 (pair y)).trans ((out14 m c hx ha t (y 0) (y 1)).trans h.symm)

/-- The fourth result, the value, is the reference's. -/
theorem final_v (c : Dev nD) : (dats m 0 c).arrAt 15 (cfgs 0).N
    = val_main_v69 (F := Ideal) (m ((c : Thread nD τ).loc main_arg0)) (m ((c : Thread nD τ).loc main_arg1)) := by
  refine (dats m 0 c).arrAt_eq_of_covers 15 _ (by decide +kernel) fun t _ y => ?_
  blk_simp
  rw [after0_15]
  have e : (win0_15.blk t).view.emb y = ix2 (row t (y 0)) (y 1) := by
    blk_ext [idx t]
    show t.val * 256 + (y 0).val = 256 * t.val + (y 0).val
    omega
  have h := Ref.v_at (m ((c : Thread nD τ).loc main_arg0)) (m ((c : Thread nD τ).loc main_arg1)) (rows m c) (rows_ref m c) (row t (y 0)) (y 1)
  rw [rows_row] at h
  rw [e]
  exact (congrArg (outsAt0 m c t).2.2.2.1 (pair y)).trans ((out15 m c t (y 0) (y 1)).trans h.symm)

/-- The fifth result, the removal direction, is the reference's. -/
theorem final_a (c : Dev nD) (hx : ∀ r ch, Real (mixed (proj m c) (mix m c) r ch)) (hk : ∀ p, Real (kk m c p)): (dats m 0 c).arrAt 16 (cfgs 0).N
    = val_main_v70 (F := Ideal) (m ((c : Thread nD τ).loc main_arg0)) (m ((c : Thread nD τ).loc main_arg1)) (m ((c : Thread nD τ).loc main_arg7)) := by
  refine (dats m 0 c).arrAt_eq_of_covers 16 _ (by decide +kernel) fun t _ y => ?_
  blk_simp
  rw [after0_16]
  have e : (win0_16.blk t).view.emb y = ix2 (row t (y 0)) (y 1) := by
    blk_ext [idx t]
    show t.val * 256 + (y 0).val = 256 * t.val + (y 0).val
    omega
  have h := Ref.a_at (m ((c : Thread nD τ).loc main_arg0)) (m ((c : Thread nD τ).loc main_arg1)) (m ((c : Thread nD τ).loc main_arg7)) (rows m c) (rows_ref m c) (row t (y 0)) (y 1)
  rw [rows_row] at h
  rw [e]
  exact (congrArg (outsAt0 m c t).2.2.2.2.1 (pair y)).trans ((out16 m c hx hk t (y 0) (y 1)).trans h.symm)

/-- The sixth result, the replacement direction, is the reference's. -/
theorem final_b (c : Dev nD) (hx : ∀ r ch, Real (mixed (proj m c) (mix m c) r ch)) (ha : ∀ k p, Real (aw m c k p)) (hk : ∀ p, Real (kk m c p)): (dats m 0 c).arrAt 17 (cfgs 0).N
    = val_main_v71 (F := Ideal) (m ((c : Thread nD τ).loc main_arg0)) (m ((c : Thread nD τ).loc main_arg1)) (m ((c : Thread nD τ).loc main_arg4)) (m ((c : Thread nD τ).loc main_arg5)) (m ((c : Thread nD τ).loc main_arg7)) := by
  refine (dats m 0 c).arrAt_eq_of_covers 17 _ (by decide +kernel) fun t _ y => ?_
  blk_simp
  rw [after0_17]
  have e : (win0_17.blk t).view.emb y = ix2 (row t (y 0)) (y 1) := by
    blk_ext [idx t]
    show t.val * 256 + (y 0).val = 256 * t.val + (y 0).val
    omega
  have h := Ref.b_at (m ((c : Thread nD τ).loc main_arg0)) (m ((c : Thread nD τ).loc main_arg1)) (m ((c : Thread nD τ).loc main_arg4)) (m ((c : Thread nD τ).loc main_arg5)) (m ((c : Thread nD τ).loc main_arg7)) (rows m c) (rows_ref m c) (row t (y 0)) (y 1)
  rw [rows_row] at h
  rw [e]
  exact (congrArg (outsAt0 m c t).2.2.2.2.2.1 (pair y)).trans ((out17 m c hx ha hk t (y 0) (y 1)).trans h.symm)

/-- The seventh result, the output gate, is the reference's. -/
theorem final_g (c : Dev nD) (hx : ∀ r ch, Real (mixed (proj m c) (mix m c) r ch)) (hg : ∀ k p, Real (gw m c k p)): (dats m 0 c).arrAt 18 (cfgs 0).N
    = val_main_v72 (F := Ideal) (m ((c : Thread nD τ).loc main_arg0)) (m ((c : Thread nD τ).loc main_arg1)) (m ((c : Thread nD τ).loc main_arg6)) := by
  refine (dats m 0 c).arrAt_eq_of_covers 18 _ (by decide +kernel) fun t _ y => ?_
  blk_simp
  rw [after0_18]
  have e : (win0_18.blk t).view.emb y = ix2 (row t (y 0)) (y 1) := by
    blk_ext [idx t]
    show t.val * 256 + (y 0).val = 256 * t.val + (y 0).val
    omega
  have h := Ref.g_at (m ((c : Thread nD τ).loc main_arg0)) (m ((c : Thread nD τ).loc main_arg1)) (m ((c : Thread nD τ).loc main_arg6)) (rows m c) (rows_ref m c) (row t (y 0)) (y 1)
  rw [rows_row] at h
  rw [e]
  exact (congrArg (outsAt0 m c t).2.2.2.2.2.2 (pair y)).trans ((out18 m c hx hg t (y 0) (y 1)).trans h.symm)

end Cert.Proof.Prep

end
end
-- ==== Proof.References.lean ====
/- The references' own runs: each leaves its arguments as they were and every counter at zero. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import Idealize.ShloMosaic.Lib.Quiescent
public import Idealize.ShloMosaic.Lib.Claim

@[expose] public section

noncomputable section

namespace Cert.Proof.References

open Idealize.ShloMosaic Idealize.ShloMosaic.TcCoe Idealize.SL.Sem

section Mixer

open Cert.ReferenceIdeal Cert.ReferenceIdeal.Gen Cert.ReferenceIdeal.Value
open Idealize.ShloMosaic.StableHlo

variable (m : (ℓ : Loc nD τ sig) → Buf (Elt Ideal) ℓ)

/-- An argument array is one no trip of the loop writes, so it holds before every trip what it held at the entry. -/
theorem arg_loop (c : Dev nD) (r : Ref sig .tc) (h : r ∉ condOps_W) (h0 : r ∉ while0Ops0_W) (h1 : r ∉ while0Ops0_1_W)
    (h2 : r ∉ while0Ops0_2_W) (h3 : r ∉ while0Ops0_3_W) (h4 : r ∉ while0Ops0_4_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes h]
    exact arg_loop c r h h0 h1 h2 h3 h4 k

set_option maxRecDepth 100000 in
/-- An argument array holds at the end what it held after the loop. -/
theorem arg_final (c : Dev nD) (r : Ref sig .tc)
    (hr : r ∈ [main_arg0, main_arg1, main_arg2, main_arg3, main_arg4, main_arg5, main_arg6]) :
    finalContents condOps preI bodyI postI 128 m c (Proc.devRef .tc r) = m ((c.tc : Thread nD τ).loc r) := by
  have hl := arg_loop m c r
  simp only [List.mem_cons, List.not_mem_nil, or_false] at hr
  rcases hr with rfl | rfl | rfl | rfl | rfl | rfl | rfl <;>
  · have hl := hl (by decide +kernel) (by decide +kernel) (by decide +kernel) (by decide +kernel) (by decide +kernel) (by decide +kernel) 128
    unfold finalContents
    simp only [afterL_cons, afterL_nil]
    after_reads_simp
    refine (hl.trans ?_)
    unfold entryContents
    simp only [afterL_cons, afterL_nil]
    after_reads_simp
    try rfl

/-- The mixer's reference leaves its arguments unchanged and every counter at zero. -/
theorem mixer : Cert.quiescent_ReferenceIdeal := by
  intro m g _
  refine (θ_run Cert.ReferenceIdeal.defs _ _).mono (fun r h => ⟨fun c => ?_, sem_eq_zero_of_no_sems (by decide) r.2⟩) (run_fold (F := Ideal) m g)
  exact ⟨(h c main_arg0 rfl).trans (arg_final m c main_arg0 (by decide)), (h c main_arg1 rfl).trans (arg_final m c main_arg1 (by decide)),
    (h c main_arg2 rfl).trans (arg_final m c main_arg2 (by decide)), (h c main_arg3 rfl).trans (arg_final m c main_arg3 (by decide)),
    (h c main_arg4 rfl).trans (arg_final m c main_arg4 (by decide)), (h c main_arg5 rfl).trans (arg_final m c main_arg5 (by decide)),
    (h c main_arg6 rfl).trans (arg_final m c main_arg6 (by decide))⟩

end Mixer

/-- The merge's reference leaves its arguments unchanged and every counter at zero. -/
theorem merge : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The attention projection's reference leaves its arguments unchanged and every counter at zero. -/
theorem project3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The delta-rule projection's reference leaves its arguments unchanged and every counter at zero. -/
theorem project4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The mixer projection's reference leaves its arguments unchanged and every counter at zero. -/
theorem project5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The delta-rule preparation's reference leaves its arguments unchanged and every counter at zero. -/
theorem prep : Cert.quiescent_Reference6Ideal := fun m g _ =>
  (θ_run Cert.Reference6Ideal.defs _ _).mono (fun r h => ⟨fun c => (h c).2.2.2.2.2.2.2, sem_eq_zero_of_no_sems (by decide) r.2⟩)
    (Cert.Reference6Ideal.Value.run (F := Ideal) m g)

end Cert.Proof.References

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Value
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Kernel6Ideal.Frame
public import proofs.«01_k».proof.Proof.Gen.Reference6Ideal.Run
public import proofs.«01_k».proof.Proof.Gen.Reference6Ideal.Read
public import proofs.«01_k».proof.Proof.Merge
public import proofs.«01_k».proof.Proof.Project3
public import proofs.«01_k».proof.Proof.Project4
public import proofs.«01_k».proof.Proof.Project5
public import proofs.«01_k».proof.Proof.Prep
public import proofs.«01_k».proof.Proof.References
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The merge kernel and its reference end with equal results. -/
theorem merge : Cert.algebraic_Kernel2Ideal_Reference2Ideal := by
  pair_intro
  · run_from Cert.Kernel2Ideal.Value.run_blocks m g
  · run_from Cert.Reference2Ideal.Value.run m' g'
    rw [Merge.final m c, Cert.Reference2Ideal.Read.val_main_v42_eq]
    obtain ⟨h0, h1, h2, h3, h4, h5, h6, h7, h8, h9, h10⟩ := hagree c
    rw [h0, h1, h2, h3, h4, h5, h6, h7, h8, h9, h10]

/-- The attention projection and its reference end with equal results. -/
theorem project3 : Cert.algebraic_Kernel3Ideal_Reference3Ideal := by
  pair_intro
  · run_from Cert.Kernel3Ideal.Value.run_blocks m g
  · run_from Cert.Reference3Ideal.Value.run m' g'
    exact (Cert.Reference3Ideal.Read.val_main_v14_eq _ _ _).trans (Project3.final m c).symm

/-- The delta-rule projection and its reference end with equal results. -/
theorem project4 : Cert.algebraic_Kernel4Ideal_Reference4Ideal := by
  pair_intro
  · run_from Cert.Kernel4Ideal.Value.run_blocks m g
  · run_from Cert.Reference4Ideal.Value.run m' g'
    exact (Cert.Reference4Ideal.Read.val_main_v14_eq _ _ _).trans (Project4.final m c).symm

/-- The mixer projection and its reference end with equal results. -/
theorem project5 : Cert.algebraic_Kernel5Ideal_Reference5Ideal := by
  pair_intro
  · run_from Cert.Kernel5Ideal.Value.run_blocks m g
  · run_from Cert.Reference5Ideal.Value.run m' g'
    refine (Cert.Reference5Ideal.Read.val_main_v19_eq _ _ _).trans ?_
    rw [(hagree c).2.2]
    exact (Project5.final m c).symm

set_option maxRecDepth 16384 in
set_option maxHeartbeats 4000000 in
/-- The delta-rule preparation and its reference end with equal results, the arrays of the precondition being finite. -/
theorem prep : Cert.algebraic_Kernel6Ideal_Reference6Ideal_pre_finite6 (hPre_finite6 := Prep.preFacts) := by
  intro m g m' g' hpre hagree
  refine ⟨fun c => (Cert.Kernel6Ideal.Gen.dats m 0 c).arrAt 12 Cert.Kernel6Ideal.cfg0.N, fun c => (Cert.Kernel6Ideal.Gen.dats m 0 c).arrAt 13 Cert.Kernel6Ideal.cfg0.N,
    fun c => (Cert.Kernel6Ideal.Gen.dats m 0 c).arrAt 14 Cert.Kernel6Ideal.cfg0.N, fun c => (Cert.Kernel6Ideal.Gen.dats m 0 c).arrAt 15 Cert.Kernel6Ideal.cfg0.N,
    fun c => (Cert.Kernel6Ideal.Gen.dats m 0 c).arrAt 16 Cert.Kernel6Ideal.cfg0.N, fun c => (Cert.Kernel6Ideal.Gen.dats m 0 c).arrAt 17 Cert.Kernel6Ideal.cfg0.N,
    fun c => (Cert.Kernel6Ideal.Gen.dats m 0 c).arrAt 18 Cert.Kernel6Ideal.cfg0.N, ?_, ?_⟩
  · run_from Cert.Kernel6Ideal.Value.run_blocks m g
  · run_from Cert.Reference6Ideal.Value.run m' g'
    all_goals
      obtain ⟨hP, hM, hk, hw, ha, hg⟩ := Prep.finite m hpre c
      have hx := Prep.real_mixed hP hM
    · exact (Cert.Reference6Ideal.Read.val_main_v66_eq _ _).trans (Prep.final_r m c).symm
    · rw [Cert.Reference6Ideal.Read.val_main_v67_eq, (hagree c).1, (hagree c).2.1, (hagree c).2.2.1, (hagree c).2.2.2.1]
      exact (Prep.final_lw m c hw).symm
    · exact (Cert.Reference6Ideal.Read.val_main_v68_eq _ _ _ _ _).trans (Prep.final_k m c hx ha).symm
    · exact (Cert.Reference6Ideal.Read.val_main_v69_eq _ _).trans (Prep.final_v m c).symm
    · exact (Cert.Reference6Ideal.Read.val_main_v70_eq _ _ _).trans (Prep.final_a m c hx hk).symm
    · rw [Cert.Reference6Ideal.Read.val_main_v71_eq, (hagree c).1, (hagree c).2.1, (hagree c).2.2.2.2.1, (hagree c).2.2.2.2.2.1, (hagree c).2.2.2.2.2.2.2.1]
      exact (Prep.final_b m c hx ha hk).symm
    · exact (Cert.Reference6Ideal.Read.val_main_v72_eq _ _ _).trans (Prep.final_g m c hx hg).symm

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Prep.preFacts,
  fun m g _ => Cert.Kernel.Gen.frame m g,
  fun m g _ => Cert.KernelIdeal.Gen.frame m g,
  References.mixer,
  fun m g _ => Cert.Kernel2.Gen.frame m g,
  fun m g _ => Cert.Kernel2Ideal.Gen.frame m g,
  References.merge,
  fun m g _ => Cert.Kernel3.Gen.frame m g,
  fun m g _ => Cert.Kernel3Ideal.Gen.frame m g,
  References.project3,
  fun m g _ => Cert.Kernel4.Gen.frame m g,
  fun m g _ => Cert.Kernel4Ideal.Gen.frame m g,
  References.project4,
  fun m g _ => Cert.Kernel5.Gen.frame m g,
  fun m g _ => Cert.Kernel5Ideal.Gen.frame m g,
  References.project5,
  fun m g _ => Cert.Kernel6.Gen.frame m g,
  fun m g _ => Cert.Kernel6Ideal.Gen.frame m g,
  fun m g _ => Cert.Kernel6Ideal.Gen.frame m g,
  References.prep,
  fun m g _ => References.prep m g trivial,
  IdealRules.named_const.statement _ _ _ _ _ rfl, trivial, merge, trivial, project3, trivial, project4, trivial, project5, trivial, prep⟩

end Cert.Proof

end
